-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S10000x50x2 : Shape := ⟨3, ![10000, 50, 2]⟩
abbrev S10000x50 : Shape := ⟨2, ![10000, 50]⟩
abbrev S10000x50x128 : Shape := ⟨3, ![10000, 50, 128]⟩
abbrev S6x128 : Shape := ⟨2, ![6, 128]⟩
abbrev S128 : Shape := ⟨1, ![128]⟩
abbrev S128x128 : Shape := ⟨2, ![128, 128]⟩
abbrev S128x120 : Shape := ⟨2, ![128, 120]⟩
abbrev S120 : Shape := ⟨1, ![120]⟩
abbrev S10000x5x2 : Shape := ⟨3, ![10000, 5, 2]⟩
abbrev S10000x5 : Shape := ⟨2, ![10000, 5]⟩
abbrev S10000x5x128 : Shape := ⟨3, ![10000, 5, 128]⟩
abbrev S_ : Shape := ⟨0, ![]⟩
abbrev S10000x1x2 : Shape := ⟨3, ![10000, 1, 2]⟩
abbrev S10000x1 : Shape := ⟨2, ![10000, 1]⟩
abbrev S10000x5x1 : Shape := ⟨3, ![10000, 5, 1]⟩

class Facts : Prop where
  slices_S10000x50x2_S10000x5x2_0_45_0 : S10000x50x2.Slices ![0, 45, 0] S10000x5x2
  slices_S10000x50_S10000x5_0_45 : S10000x50.Slices ![0, 45] S10000x5
  slices_S10000x50x128_S10000x5x128_0_45_0 : S10000x50x128.Slices ![0, 45, 0] S10000x5x128
  bcast_S_S10000x5x2 : S_.BroadcastsInDim S10000x5x2 (![] : Fin 0 → Fin S10000x5x2.rank)
  bcast_S_S10000x5 : S_.BroadcastsInDim S10000x5 (![] : Fin 0 → Fin S10000x5.rank)
  bcast_S_S10000x5x128 : S_.BroadcastsInDim S10000x5x128 (![] : Fin 0 → Fin S10000x5x128.rank)
  bcast_S_S6x128 : S_.BroadcastsInDim S6x128 (![] : Fin 0 → Fin S6x128.rank)
  bcast_S_S128 : S_.BroadcastsInDim S128 (![] : Fin 0 → Fin S128.rank)
  bcast_S_S128x128 : S_.BroadcastsInDim S128x128 (![] : Fin 0 → Fin S128x128.rank)
  slices_S10000x50x2_S10000x1x2_0_49_0 : S10000x50x2.Slices ![0, 49, 0] S10000x1x2
  bcast_S10000x1x2_S10000x5x2_0_1_2 : S10000x1x2.BroadcastsInDim S10000x5x2 (![0, 1, 2] : Fin 3 → Fin S10000x5x2.rank)
  slices_S10000x50_S10000x1_0_49 : S10000x50.Slices ![0, 49] S10000x1
  slices_S10000x5x2_S10000x5x1_0_0_0 : S10000x5x2.Slices ![0, 0, 0] S10000x5x1
  shapeCasts_S10000x5x1_S10000x5 : S10000x5x1.ShapeCasts S10000x5
  bcast_S10000x1_S10000x5_0_1 : S10000x1.BroadcastsInDim S10000x5 (![0, 1] : Fin 2 → Fin S10000x5.rank)
  slices_S10000x5x2_S10000x5x1_0_0_1 : S10000x5x2.Slices ![0, 0, 1] S10000x5x1

variable [Facts]

def fn_part4 {F : FTy → Type} [FloatOps F] (main_v5 : IVec S10000x5x2 1) (main_v8 : IVec S10000x5 1) (main_v11 : IVec S10000x5x128 1) (main_v14 : IVec S6x128 1) (main_v17 : IVec S6x128 1) (main_v20 : IVec S128 1) (main_v23 : IVec S128x128 1) (main_v26 : IVec S128 1) (main_v29 : IVec S128x128 1) (main_v32 : IVec S128 1) (main_v35 : IVec S128x128 1) (main_v38 : IVec S128 1) (main_v41 : IVec S128x128 1) (main_v44 : IVec S128 1) (main_v47 : IVec S128x128 1) (main_v50 : IVec S128x128 1) (main_v69 : FVec F S10000x5 .f32) (main_v74 : FVec F S10000x5 .f32) (main_v78 : FVec F S10000x5 .f32) : IVec S10000x5x2 1 × IVec S10000x5 1 × IVec S10000x5x128 1 × IVec S6x128 1 × IVec S6x128 1 × IVec S128 1 × IVec S128x128 1 × IVec S128 1 × IVec S128x128 1 × IVec S128 1 × IVec S128x128 1 × IVec S128 1 × IVec S128x128 1 × IVec S128 1 × IVec S128x128 1 × IVec S128x128 1 × IVec S10000x5 1 :=
  let main_v79 : FVec F S10000x5 .f32 := addf main_v74 main_v78
  let main_v80 : FVec F S10000x5 .f32 := mulf main_v69 main_v69
  let main_v81 : FVec F S10000x5 .f32 := mulf main_v79 main_v79
  let main_v82 : FVec F S10000x5 .f32 := addf main_v80 main_v81
  let main_v83 : FVec F S10000x5 .f32 := Host.sqrt main_v82
  let main_cst_16 : FVec F S_ .f32 := constant S_ .f32 0x0DA24260#32
  let main_v84 : FVec F S10000x5 .f32 := broadcastInDim S10000x5 ![] bcast_S_S10000x5 main_cst_16
  let main_v85 : IVec S10000x5 1 := cmpf .oge main_v83 main_v84
  (main_v5, main_v8, main_v11, main_v14, main_v17, main_v20, main_v23, main_v26, main_v29, main_v32, main_v35, main_v38, main_v41, main_v44, main_v47, main_v50, main_v85)

def fn_part3 {F : FTy → Type} [FloatOps F] (main_arg1 : FVec F S10000x50 .f32) (main_v5 : IVec S10000x5x2 1) (main_v8 : IVec S10000x5 1) (main_v11 : IVec S10000x5x128 1) (main_v14 : IVec S6x128 1) (main_v17 : IVec S6x128 1) (main_v20 : IVec S128 1) (main_v23 : IVec S128x128 1) (main_v26 : IVec S128 1) (main_v29 : IVec S128x128 1) (main_v32 : IVec S128 1) (main_v35 : IVec S128x128 1) (main_v38 : IVec S128 1) (main_v41 : IVec S128x128 1) (main_v44 : IVec S128 1) (main_v47 : IVec S128x128 1) (main_v50 : IVec S128x128 1) (main_v54 : FVec F S10000x5x2 .f32) (main_v55 : FVec F S10000x1 .f32) : IVec S10000x5x2 1 × IVec S10000x5 1 × IVec S10000x5x128 1 × IVec S6x128 1 × IVec S6x128 1 × IVec S128 1 × IVec S128x128 1 × IVec S128 1 × IVec S128x128 1 × IVec S128 1 × IVec S128x128 1 × IVec S128 1 × IVec S128x128 1 × IVec S128 1 × IVec S128x128 1 × IVec S128x128 1 × IVec S10000x5 1 :=
  let main_v56 : FVec F S10000x1 .f32 := Host.cos main_v55
  let main_v57 : FVec F S10000x1 .f32 := (extractStridedSlice S10000x1 ![0, 49] · slices_S10000x50_S10000x1_0_49) main_arg1
  let main_v58 : FVec F S10000x1 .f32 := Host.sin main_v57
  let main_v59 : FVec F S10000x5x1 .f32 := (extractStridedSlice S10000x5x1 ![0, 0, 0] · slices_S10000x5x2_S10000x5x1_0_0_0) main_v54
  let main_v60 : FVec F S10000x5 .f32 := shapeCast S10000x5 main_v59 shapeCasts_S10000x5x1_S10000x5
  let main_v61 : FVec F S10000x5 .f32 := broadcastInDim S10000x5 ![0, 1] bcast_S10000x1_S10000x5_0_1 main_v56
  let main_v62 : FVec F S10000x5 .f32 := mulf main_v61 main_v60
  let main_v63 : FVec F S10000x5x1 .f32 := (extractStridedSlice S10000x5x1 ![0, 0, 1] · slices_S10000x5x2_S10000x5x1_0_0_1) main_v54
  let main_v64 : FVec F S10000x5 .f32 := shapeCast S10000x5 main_v63 shapeCasts_S10000x5x1_S10000x5
  let main_v65 : FVec F S10000x5 .f32 := broadcastInDim S10000x5 ![0, 1] bcast_S10000x1_S10000x5_0_1 main_v58
  let main_v66 : FVec F S10000x5 .f32 := mulf main_v65 main_v64
  let main_v67 : FVec F S10000x5 .f32 := addf main_v62 main_v66
  let main_cst_15 : FVec F S_ .f32 := constant S_ .f32 0x358637BD#32
  let main_v68 : FVec F S10000x5 .f32 := broadcastInDim S10000x5 ![] bcast_S_S10000x5 main_cst_15
  let main_v69 : FVec F S10000x5 .f32 := addf main_v67 main_v68
  let main_v70 : FVec F S10000x1 .f32 := Host.negf main_v58
  let main_v71 : FVec F S10000x5x1 .f32 := (extractStridedSlice S10000x5x1 ![0, 0, 0] · slices_S10000x5x2_S10000x5x1_0_0_0) main_v54
  let main_v72 : FVec F S10000x5 .f32 := shapeCast S10000x5 main_v71 shapeCasts_S10000x5x1_S10000x5
  let main_v73 : FVec F S10000x5 .f32 := broadcastInDim S10000x5 ![0, 1] bcast_S10000x1_S10000x5_0_1 main_v70
  let main_v74 : FVec F S10000x5 .f32 := mulf main_v73 main_v72
  let main_v75 : FVec F S10000x5x1 .f32 := (extractStridedSlice S10000x5x1 ![0, 0, 1] · slices_S10000x5x2_S10000x5x1_0_0_1) main_v54
  let main_v76 : FVec F S10000x5 .f32 := shapeCast S10000x5 main_v75 shapeCasts_S10000x5x1_S10000x5
  let main_v77 : FVec F S10000x5 .f32 := broadcastInDim S10000x5 ![0, 1] bcast_S10000x1_S10000x5_0_1 main_v56
  let main_v78 : FVec F S10000x5 .f32 := mulf main_v77 main_v76
  fn_part4 (F := F) main_v5 main_v8 main_v11 main_v14 main_v17 main_v20 main_v23 main_v26 main_v29 main_v32 main_v35 main_v38 main_v41 main_v44 main_v47 main_v50 main_v69 main_v74 main_v78

def fn_part2 {F : FTy → Type} [FloatOps F] (main_arg0 : FVec F S10000x50x2 .f32) (main_arg1 : FVec F S10000x50 .f32) (main_arg12 : FVec F S128x128 .f32) (main_arg13 : FVec F S128 .f32) (main_arg14 : FVec F S128x128 .f32) (main_arg16 : FVec F S128x128 .f32) (main_v5 : IVec S10000x5x2 1) (main_v8 : IVec S10000x5 1) (main_v11 : IVec S10000x5x128 1) (main_v14 : IVec S6x128 1) (main_v17 : IVec S6x128 1) (main_v20 : IVec S128 1) (main_v23 : IVec S128x128 1) (main_v26 : IVec S128 1) (main_v29 : IVec S128x128 1) (main_v32 : IVec S128 1) (main_v35 : IVec S128x128 1) (main_v36 : FVec F S128 .f32) : IVec S10000x5x2 1 × IVec S10000x5 1 × IVec S10000x5x128 1 × IVec S6x128 1 × IVec S6x128 1 × IVec S128 1 × IVec S128x128 1 × IVec S128 1 × IVec S128x128 1 × IVec S128 1 × IVec S128x128 1 × IVec S128 1 × IVec S128x128 1 × IVec S128 1 × IVec S128x128 1 × IVec S128x128 1 × IVec S10000x5 1 :=
  let main_cst_10 : FVec F S_ .f32 := constant S_ .f32 0x7F800000#32
  let main_v37 : FVec F S128 .f32 := broadcastInDim S128 ![] bcast_S_S128 main_cst_10
  let main_v38 : IVec S128 1 := cmpf .olt main_v36 main_v37
  let main_v39 : FVec F S128x128 .f32 := Host.absf main_arg12
  let main_cst_11 : FVec F S_ .f32 := constant S_ .f32 0x7F800000#32
  let main_v40 : FVec F S128x128 .f32 := broadcastInDim S128x128 ![] bcast_S_S128x128 main_cst_11
  let main_v41 : IVec S128x128 1 := cmpf .olt main_v39 main_v40
  let main_v42 : FVec F S128 .f32 := Host.absf main_arg13
  let main_cst_12 : FVec F S_ .f32 := constant S_ .f32 0x7F800000#32
  let main_v43 : FVec F S128 .f32 := broadcastInDim S128 ![] bcast_S_S128 main_cst_12
  let main_v44 : IVec S128 1 := cmpf .olt main_v42 main_v43
  let main_v45 : FVec F S128x128 .f32 := Host.absf main_arg14
  let main_cst_13 : FVec F S_ .f32 := constant S_ .f32 0x7F800000#32
  let main_v46 : FVec F S128x128 .f32 := broadcastInDim S128x128 ![] bcast_S_S128x128 main_cst_13
  let main_v47 : IVec S128x128 1 := cmpf .olt main_v45 main_v46
  let main_v48 : FVec F S128x128 .f32 := Host.absf main_arg16
  let main_cst_14 : FVec F S_ .f32 := constant S_ .f32 0x7F800000#32
  let main_v49 : FVec F S128x128 .f32 := broadcastInDim S128x128 ![] bcast_S_S128x128 main_cst_14
  let main_v50 : IVec S128x128 1 := cmpf .olt main_v48 main_v49
  let main_v51 : FVec F S10000x5x2 .f32 := (extractStridedSlice S10000x5x2 ![0, 45, 0] · slices_S10000x50x2_S10000x5x2_0_45_0) main_arg0
  let main_v52 : FVec F S10000x1x2 .f32 := (extractStridedSlice S10000x1x2 ![0, 49, 0] · slices_S10000x50x2_S10000x1x2_0_49_0) main_arg0
  let main_v53 : FVec F S10000x5x2 .f32 := broadcastInDim S10000x5x2 ![0, 1, 2] bcast_S10000x1x2_S10000x5x2_0_1_2 main_v52
  let main_v54 : FVec F S10000x5x2 .f32 := subf main_v51 main_v53
  let main_v55 : FVec F S10000x1 .f32 := (extractStridedSlice S10000x1 ![0, 49] · slices_S10000x50_S10000x1_0_49) main_arg1
  fn_part3 (F := F) main_arg1 main_v5 main_v8 main_v11 main_v14 main_v17 main_v20 main_v23 main_v26 main_v29 main_v32 main_v35 main_v38 main_v41 main_v44 main_v47 main_v50 main_v54 main_v55

def fn_part1 {F : FTy → Type} [FloatOps F] (main_arg0 : FVec F S10000x50x2 .f32) (main_arg1 : FVec F S10000x50 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg16 : FVec F S128x128 .f32) (main_v5 : IVec S10000x5x2 1) (main_v8 : IVec S10000x5 1) (main_v11 : IVec S10000x5x128 1) (main_v14 : IVec S6x128 1) (main_v17 : IVec S6x128 1) (main_v18 : FVec F S128 .f32) : IVec S10000x5x2 1 × IVec S10000x5 1 × IVec S10000x5x128 1 × IVec S6x128 1 × IVec S6x128 1 × IVec S128 1 × IVec S128x128 1 × IVec S128 1 × IVec S128x128 1 × IVec S128 1 × IVec S128x128 1 × IVec S128 1 × IVec S128x128 1 × IVec S128 1 × IVec S128x128 1 × IVec S128x128 1 × IVec S10000x5 1 :=
  let main_cst_4 : FVec F S_ .f32 := constant S_ .f32 0x7F800000#32
  let main_v19 : FVec F S128 .f32 := broadcastInDim S128 ![] bcast_S_S128 main_cst_4
  let main_v20 : IVec S128 1 := cmpf .olt main_v18 main_v19
  let main_v21 : FVec F S128x128 .f32 := Host.absf main_arg6
  let main_cst_5 : FVec F S_ .f32 := constant S_ .f32 0x7F800000#32
  let main_v22 : FVec F S128x128 .f32 := broadcastInDim S128x128 ![] bcast_S_S128x128 main_cst_5
  let main_v23 : IVec S128x128 1 := cmpf .olt main_v21 main_v22
  let main_v24 : FVec F S128 .f32 := Host.absf main_arg7
  let main_cst_6 : FVec F S_ .f32 := constant S_ .f32 0x7F800000#32
  let main_v25 : FVec F S128 .f32 := broadcastInDim S128 ![] bcast_S_S128 main_cst_6
  let main_v26 : IVec S128 1 := cmpf .olt main_v24 main_v25
  let main_v27 : FVec F S128x128 .f32 := Host.absf main_arg8
  let main_cst_7 : FVec F S_ .f32 := constant S_ .f32 0x7F800000#32
  let main_v28 : FVec F S128x128 .f32 := broadcastInDim S128x128 ![] bcast_S_S128x128 main_cst_7
  let main_v29 : IVec S128x128 1 := cmpf .olt main_v27 main_v28
  let main_v30 : FVec F S128 .f32 := Host.absf main_arg9
  let main_cst_8 : FVec F S_ .f32 := constant S_ .f32 0x7F800000#32
  let main_v31 : FVec F S128 .f32 := broadcastInDim S128 ![] bcast_S_S128 main_cst_8
  let main_v32 : IVec S128 1 := cmpf .olt main_v30 main_v31
  let main_v33 : FVec F S128x128 .f32 := Host.absf main_arg10
  let main_cst_9 : FVec F S_ .f32 := constant S_ .f32 0x7F800000#32
  let main_v34 : FVec F S128x128 .f32 := broadcastInDim S128x128 ![] bcast_S_S128x128 main_cst_9
  let main_v35 : IVec S128x128 1 := cmpf .olt main_v33 main_v34
  let main_v36 : FVec F S128 .f32 := Host.absf main_arg11
  fn_part2 (F := F) main_arg0 main_arg1 main_arg12 main_arg13 main_arg14 main_arg16 main_v5 main_v8 main_v11 main_v14 main_v17 main_v20 main_v23 main_v26 main_v29 main_v32 main_v35 main_v36

def fn {F : FTy → Type} [FloatOps F] (main_arg0 : FVec F S10000x50x2 .f32) (main_arg1 : FVec F S10000x50 .f32) (main_arg2 : FVec F S10000x50x128 .f32) (main_arg3 : FVec F S6x128 .f32) (main_arg4 : FVec F S6x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x120 .f32) (main_arg19 : FVec F S120 .f32) : IVec S10000x5x2 1 × IVec S10000x5 1 × IVec S10000x5x128 1 × IVec S6x128 1 × IVec S6x128 1 × IVec S128 1 × IVec S128x128 1 × IVec S128 1 × IVec S128x128 1 × IVec S128 1 × IVec S128x128 1 × IVec S128 1 × IVec S128x128 1 × IVec S128 1 × IVec S128x128 1 × IVec S128x128 1 × IVec S10000x5 1 :=
  let main_v0 : FVec F S10000x5x2 .f32 := (extractStridedSlice S10000x5x2 ![0, 45, 0] · slices_S10000x50x2_S10000x5x2_0_45_0) main_arg0
  let main_v1 : FVec F S10000x5 .f32 := (extractStridedSlice S10000x5 ![0, 45] · slices_S10000x50_S10000x5_0_45) main_arg1
  let main_v2 : FVec F S10000x5x128 .f32 := (extractStridedSlice S10000x5x128 ![0, 45, 0] · slices_S10000x50x128_S10000x5x128_0_45_0) main_arg2
  let main_v3 : FVec F S10000x5x2 .f32 := Host.absf main_v0
  let main_cst : FVec F S_ .f32 := constant S_ .f32 0x7F800000#32
  let main_v4 : FVec F S10000x5x2 .f32 := broadcastInDim S10000x5x2 ![] bcast_S_S10000x5x2 main_cst
  let main_v5 : IVec S10000x5x2 1 := cmpf .olt main_v3 main_v4
  let main_v6 : FVec F S10000x5 .f32 := Host.absf main_v1
  let main_cst_0 : FVec F S_ .f32 := constant S_ .f32 0x7F800000#32
  let main_v7 : FVec F S10000x5 .f32 := broadcastInDim S10000x5 ![] bcast_S_S10000x5 main_cst_0
  let main_v8 : IVec S10000x5 1 := cmpf .olt main_v6 main_v7
  let main_v9 : FVec F S10000x5x128 .f32 := Host.absf main_v2
  let main_cst_1 : FVec F S_ .f32 := constant S_ .f32 0x7F800000#32
  let main_v10 : FVec F S10000x5x128 .f32 := broadcastInDim S10000x5x128 ![] bcast_S_S10000x5x128 main_cst_1
  let main_v11 : IVec S10000x5x128 1 := cmpf .olt main_v9 main_v10
  let main_v12 : FVec F S6x128 .f32 := Host.absf main_arg3
  let main_cst_2 : FVec F S_ .f32 := constant S_ .f32 0x7F800000#32
  let main_v13 : FVec F S6x128 .f32 := broadcastInDim S6x128 ![] bcast_S_S6x128 main_cst_2
  let main_v14 : IVec S6x128 1 := cmpf .olt main_v12 main_v13
  let main_v15 : FVec F S6x128 .f32 := Host.absf main_arg4
  let main_cst_3 : FVec F S_ .f32 := constant S_ .f32 0x7F800000#32
  let main_v16 : FVec F S6x128 .f32 := broadcastInDim S6x128 ![] bcast_S_S6x128 main_cst_3
  let main_v17 : IVec S6x128 1 := cmpf .olt main_v15 main_v16
  let main_v18 : FVec F S128 .f32 := Host.absf main_arg5
  fn_part1 (F := F) main_arg0 main_arg1 main_arg6 main_arg7 main_arg8 main_arg9 main_arg10 main_arg11 main_arg12 main_arg13 main_arg14 main_arg16 main_v5 main_v8 main_v11 main_v14 main_v17 main_v18
-- ==== Kernel.lean ====
abbrev S10000x50x2 : Shape := ⟨3, ![10000, 50, 2]⟩
abbrev S10000x50 : Shape := ⟨2, ![10000, 50]⟩
abbrev S10000x50x128 : Shape := ⟨3, ![10000, 50, 128]⟩
abbrev S6x128 : Shape := ⟨2, ![6, 128]⟩
abbrev S128 : Shape := ⟨1, ![128]⟩
abbrev S128x128 : Shape := ⟨2, ![128, 128]⟩
abbrev S128x120 : Shape := ⟨2, ![128, 120]⟩
abbrev S120 : Shape := ⟨1, ![120]⟩
abbrev S128x48 : Shape := ⟨2, ![128, 48]⟩
abbrev S48 : Shape := ⟨1, ![48]⟩
abbrev S10000x5x1 : Shape := ⟨3, ![10000, 5, 1]⟩
abbrev S10000x5 : Shape := ⟨2, ![10000, 5]⟩
abbrev S5x10000 : Shape := ⟨2, ![5, 10000]⟩
abbrev S10000x5x128 : Shape := ⟨3, ![10000, 5, 128]⟩
abbrev S5x10000x128 : Shape := ⟨3, ![5, 10000, 128]⟩
abbrev S1x128 : Shape := ⟨2, ![1, 128]⟩
abbrev S7x128 : Shape := ⟨2, ![7, 128]⟩
abbrev S_ : Shape := ⟨0, ![]⟩
abbrev S128x6 : Shape := ⟨2, ![128, 6]⟩
abbrev S48x1 : Shape := ⟨2, ![48, 1]⟩
abbrev S1x120 : Shape := ⟨2, ![1, 120]⟩
abbrev S10000x720 : Shape := ⟨2, ![10000, 720]⟩
abbrev S5x1024 : Shape := ⟨2, ![5, 1024]⟩
abbrev S5x1024x128 : Shape := ⟨3, ![5, 1024, 128]⟩
abbrev S1024x720 : Shape := ⟨2, ![1024, 720]⟩
abbrev S1x1024 : Shape := ⟨2, ![1, 1024]⟩
abbrev S1x5120 : Shape := ⟨2, ![1, 5120]⟩
abbrev S7x5120 : Shape := ⟨2, ![7, 5120]⟩
abbrev S5120x128 : Shape := ⟨2, ![5120, 128]⟩
abbrev S1x1024x128 : Shape := ⟨3, ![1, 1024, 128]⟩
abbrev S1024x128 : Shape := ⟨2, ![1024, 128]⟩
abbrev S1024x48 : Shape := ⟨2, ![1024, 48]⟩
abbrev S48x768 : Shape := ⟨2, ![48, 768]⟩
abbrev S1024x768 : Shape := ⟨2, ![1024, 768]⟩
abbrev S1024x120 : Shape := ⟨2, ![1024, 120]⟩
abbrev S10000x6x60x2 : Shape := ⟨4, ![10000, 6, 60, 2]⟩

abbrev nBuf : Space → Nat
  | .hbm => 66
  | .vmem => 20
  | .smem => 0
  | _ => 0

abbrev bufTy : (tb : Table) → Fin (tcTables nBuf tb) → BufTy
  | .hbm, ⟨0, _⟩ => ⟨S10000x50x2, .f32⟩
  | .hbm, ⟨1, _⟩ => ⟨S10000x50, .f32⟩
  | .hbm, ⟨2, _⟩ => ⟨S10000x50x128, .f32⟩
  | .hbm, ⟨3, _⟩ => ⟨S6x128, .f32⟩
  | .hbm, ⟨4, _⟩ => ⟨S6x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x120, .f32⟩
  | .hbm, ⟨19, _⟩ => ⟨S120, .f32⟩
  | .hbm, ⟨20, _⟩ => ⟨S128x48, .f32⟩
  | .hbm, ⟨21, _⟩ => ⟨S48, .i32⟩
  | .hbm, ⟨22, _⟩ => ⟨S48, .i1⟩
  | .hbm, ⟨23, _⟩ => ⟨S10000x5x1, .f32⟩
  | .hbm, ⟨24, _⟩ => ⟨S10000x5, .f32⟩
  | .hbm, ⟨25, _⟩ => ⟨S5x10000, .f32⟩
  | .hbm, ⟨26, _⟩ => ⟨S10000x5x1, .f32⟩
  | .hbm, ⟨27, _⟩ => ⟨S10000x5, .f32⟩
  | .hbm, ⟨28, _⟩ => ⟨S5x10000, .f32⟩
  | .hbm, ⟨29, _⟩ => ⟨S10000x5, .f32⟩
  | .hbm, ⟨30, _⟩ => ⟨S5x10000, .f32⟩
  | .hbm, ⟨31, _⟩ => ⟨S10000x5x128, .f32⟩
  | .hbm, ⟨32, _⟩ => ⟨S5x10000x128, .f32⟩
  | .hbm, ⟨33, _⟩ => ⟨S1x128, .f32⟩
  | .hbm, ⟨34, _⟩ => ⟨S7x128, .f32⟩
  | .hbm, ⟨35, _⟩ => ⟨S6x128, .f32⟩
  | .hbm, ⟨36, _⟩ => ⟨S1x128, .f32⟩
  | .hbm, ⟨37, _⟩ => ⟨S6x128, .f32⟩
  | .hbm, ⟨38, _⟩ => ⟨S6x128, .f32⟩
  | .hbm, ⟨39, _⟩ => ⟨S_, .f32⟩
  | .hbm, ⟨40, _⟩ => ⟨S6x128, .f32⟩
  | .hbm, ⟨41, _⟩ => ⟨S6x128, .f32⟩
  | .hbm, ⟨42, _⟩ => ⟨S128x6, .f32⟩
  | .hbm, ⟨43, _⟩ => ⟨S_, .i32⟩
  | .hbm, ⟨44, _⟩ => ⟨S48, .i32⟩
  | .hbm, ⟨45, _⟩ => ⟨S48, .i32⟩
  | .hbm, ⟨46, _⟩ => ⟨S48, .i32⟩
  | .hbm, ⟨47, _⟩ => ⟨S48x1, .i32⟩
  | .hbm, ⟨48, _⟩ => ⟨S128x48, .f32⟩
  | .hbm, ⟨49, _⟩ => ⟨S128x48, .f32⟩
  | .hbm, ⟨50, _⟩ => ⟨S128x48, .f32⟩
  | .hbm, ⟨51, _⟩ => ⟨S128x48, .f32⟩
  | .hbm, ⟨52, _⟩ => ⟨S128x128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S128x128, .f32⟩
  | .hbm, ⟨57, _⟩ => ⟨S6x128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S6x128, .f32⟩
  | .hbm, ⟨62, _⟩ => ⟨S6x128, .f32⟩
  | .hbm, ⟨63, _⟩ => ⟨S1x120, .f32⟩
  | .hbm, ⟨64, _⟩ => ⟨S10000x720, .f32⟩
  | .hbm, ⟨65, _⟩ => ⟨S10000x6x60x2, .f32⟩
  | .local _ .vmem, ⟨0, _⟩ => ⟨S5x1024, .f32⟩
  | .local _ .vmem, ⟨1, _⟩ => ⟨S5x1024, .f32⟩
  | .local _ .vmem, ⟨2, _⟩ => ⟨S5x1024, .f32⟩
  | .local _ .vmem, ⟨3, _⟩ => ⟨S5x1024, .f32⟩
  | .local _ .vmem, ⟨4, _⟩ => ⟨S5x1024, .f32⟩
  | .local _ .vmem, ⟨5, _⟩ => ⟨S5x1024, .f32⟩
  | .local _ .vmem, ⟨6, _⟩ => ⟨S5x1024x128, .f32⟩
  | .local _ .vmem, ⟨7, _⟩ => ⟨S5x1024x128, .f32⟩
  | .local _ .vmem, ⟨8, _⟩ => ⟨S7x128, .f32⟩
  | .local _ .vmem, ⟨9, _⟩ => ⟨S128x48, .f32⟩
  | .local _ .vmem, ⟨10, _⟩ => ⟨S128x48, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S6x128, .f32⟩
  | .local _ .vmem, ⟨16, _⟩ => ⟨S128x120, .f32⟩
  | .local _ .vmem, ⟨17, _⟩ => ⟨S1x120, .f32⟩
  | .local _ .vmem, ⟨18, _⟩ => ⟨S1024x720, .f32⟩
  | .local _ .vmem, ⟨19, _⟩ => ⟨S1024x720, .f32⟩
  | _, _ => ⟨S10000x50x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_c : Ref sig .tc := ⟨.hbm, 21, rfl⟩
abbrev main_c_0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x720 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S10000x50x2 : Shape := ⟨3, ![10000, 50, 2]⟩
abbrev S10000x50 : Shape := ⟨2, ![10000, 50]⟩
abbrev S10000x50x128 : Shape := ⟨3, ![10000, 50, 128]⟩
abbrev S6x128 : Shape := ⟨2, ![6, 128]⟩
abbrev S128 : Shape := ⟨1, ![128]⟩
abbrev S128x128 : Shape := ⟨2, ![128, 128]⟩
abbrev S128x120 : Shape := ⟨2, ![128, 120]⟩
abbrev S120 : Shape := ⟨1, ![120]⟩
abbrev S10000x5x2 : Shape := ⟨3, ![10000, 5, 2]⟩
abbrev S10000x5 : Shape := ⟨2, ![10000, 5]⟩
abbrev S10000x1x2 : Shape := ⟨3, ![10000, 1, 2]⟩
abbrev S10000x2 : Shape := ⟨2, ![10000, 2]⟩
abbrev S10000x1 : Shape := ⟨2, ![10000, 1]⟩
abbrev S10000 : Shape := ⟨1, ![10000]⟩
abbrev S10000x5x1 : Shape := ⟨3, ![10000, 5, 1]⟩
abbrev S_ : Shape := ⟨0, ![]⟩
abbrev S5 : Shape := ⟨1, ![5]⟩
abbrev S1x5 : Shape := ⟨2, ![1, 5]⟩
abbrev S10000x5x6 : Shape := ⟨3, ![10000, 5, 6]⟩
abbrev S10000x5x128 : Shape := ⟨3, ![10000, 5, 128]⟩
abbrev S1x1x128 : Shape := ⟨3, ![1, 1, 128]⟩
abbrev S1x128 : Shape := ⟨2, ![1, 128]⟩
abbrev S6x8x16 : Shape := ⟨3, ![6, 8, 16]⟩
abbrev S10000x5x8x16 : Shape := ⟨4, ![10000, 5, 8, 16]⟩
abbrev S1x1x6x8x16 : Shape := ⟨5, ![1, 1, 6, 8, 16]⟩
abbrev S10000x5x1x8x16 : Shape := ⟨5, ![10000, 5, 1, 8, 16]⟩
abbrev S10000x5x6x8x16 : Shape := ⟨5, ![10000, 5, 6, 8, 16]⟩
abbrev S10000x5x6x8 : Shape := ⟨4, ![10000, 5, 6, 8]⟩
abbrev S10000x6x8 : Shape := ⟨3, ![10000, 6, 8]⟩
abbrev S10000x1x6x8 : Shape := ⟨4, ![10000, 1, 6, 8]⟩
abbrev S10000x5x6x8x1 : Shape := ⟨5, ![10000, 5, 6, 8, 1]⟩
abbrev S10000x6x8x16 : Shape := ⟨4, ![10000, 6, 8, 16]⟩
abbrev S10000x6x128 : Shape := ⟨3, ![10000, 6, 128]⟩
abbrev S1x6x128 : Shape := ⟨3, ![1, 6, 128]⟩
abbrev S10000x6x120 : Shape := ⟨3, ![10000, 6, 120]⟩
abbrev S1x1x120 : Shape := ⟨3, ![1, 1, 120]⟩
abbrev S10000x6x60x2 : Shape := ⟨4, ![10000, 6, 60, 2]⟩

abbrev nBuf : Space → Nat
  | .hbm => 192
  | .vmem => 0
  | .smem => 0
  | _ => 0

abbrev hbmTy0_0 (i : Nat) : BufTy := match i % 128 with
  | 0 => ⟨S10000x50x2, .f32⟩
  | 1 => ⟨S10000x50, .f32⟩
  | 2 => ⟨S10000x50x128, .f32⟩
  | 3 => ⟨S6x128, .f32⟩
  | 4 => ⟨S6x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x120, .f32⟩
  | 19 => ⟨S120, .f32⟩
  | 20 => ⟨S10000x5x2, .f32⟩
  | 21 => ⟨S10000x5, .f32⟩
  | 22 => ⟨S10000x1x2, .f32⟩
  | 23 => ⟨S10000x2, .f32⟩
  | 24 => ⟨S10000x1, .f32⟩
  | 25 => ⟨S10000, .f32⟩
  | 26 => ⟨S10000x1x2, .f32⟩
  | 27 => ⟨S10000x5x2, .f32⟩
  | 28 => ⟨S10000x5x2, .f32⟩
  | 29 => ⟨S10000, .f32⟩
  | 30 => ⟨S10000x1, .f32⟩
  | 31 => ⟨S10000, .f32⟩
  | 32 => ⟨S10000x1, .f32⟩
  | 33 => ⟨S10000x5x1, .f32⟩
  | 34 => ⟨S10000x5, .f32⟩
  | 35 => ⟨S10000x5, .f32⟩
  | 36 => ⟨S10000x5, .f32⟩
  | 37 => ⟨S10000x5x1, .f32⟩
  | 38 => ⟨S10000x5, .f32⟩
  | 39 => ⟨S10000x5, .f32⟩
  | 40 => ⟨S10000x5, .f32⟩
  | 41 => ⟨S10000x5, .f32⟩
  | 42 => ⟨S10000x1, .f32⟩
  | 43 => ⟨S10000x5x1, .f32⟩
  | 44 => ⟨S10000x5, .f32⟩
  | 45 => ⟨S10000x5, .f32⟩
  | 46 => ⟨S10000x5, .f32⟩
  | 47 => ⟨S10000x5x1, .f32⟩
  | 48 => ⟨S10000x5, .f32⟩
  | 49 => ⟨S10000x5, .f32⟩
  | 50 => ⟨S10000x5, .f32⟩
  | 51 => ⟨S10000x5, .f32⟩
  | 52 => ⟨S10000x5, .f32⟩
  | 53 => ⟨S10000x5, .f32⟩
  | 54 => ⟨S10000x5, .f32⟩
  | 55 => ⟨S_, .f32⟩
  | 56 => ⟨S10000x5, .f32⟩
  | 57 => ⟨S10000x5, .f32⟩
  | 58 => ⟨S10000x5, .f32⟩
  | 59 => ⟨S_, .f32⟩
  | 60 => ⟨S10000x5, .f32⟩
  | 61 => ⟨S10000x5, .f32⟩
  | 62 => ⟨S10000x5, .f32⟩
  | 63 => ⟨S_, .f32⟩
  | 64 => ⟨S_, .f32⟩
  | 65 => ⟨S_, .f32⟩
  | 66 => ⟨S10000x1, .f32⟩
  | 67 => ⟨S10000x5, .f32⟩
  | 68 => ⟨S10000x5, .f32⟩
  | 69 => ⟨S10000x5, .f32⟩
  | 70 => ⟨S10000x5, .f32⟩
  | 71 => ⟨S_, .f32⟩
  | 72 => ⟨S_, .f32⟩
  | 73 => ⟨S10000x5, .f32⟩
  | 74 => ⟨S10000x5, .f32⟩
  | 75 => ⟨S_, .f32⟩
  | 76 => ⟨S10000x5, .f32⟩
  | 77 => ⟨S10000x5, .i1⟩
  | 78 => ⟨S_, .f32⟩
  | 79 => ⟨S10000x5, .f32⟩
  | 80 => ⟨S10000x5, .i1⟩
  | 81 => ⟨S_, .f32⟩
  | 82 => ⟨S_, .i1⟩
  | 83 => ⟨S10000x5, .i1⟩
  | 84 => ⟨S10000x5, .i1⟩
  | 85 => ⟨S10000x5, .i1⟩
  | 86 => ⟨S10000x5, .f32⟩
  | 87 => ⟨S10000x5, .f32⟩
  | 88 => ⟨S10000x5, .f32⟩
  | 89 => ⟨S10000x5, .f32⟩
  | 90 => ⟨S10000x5, .f32⟩
  | 91 => ⟨S5, .i32⟩
  | 92 => ⟨S_, .i32⟩
  | 93 => ⟨S5, .i32⟩
  | 94 => ⟨S5, .i32⟩
  | 95 => ⟨S_, .i32⟩
  | 96 => ⟨S5, .i32⟩
  | 97 => ⟨S5, .i32⟩
  | 98 => ⟨S5, .f32⟩
  | 99 => ⟨S1x5, .f32⟩
  | 100 => ⟨S10000x5, .f32⟩
  | 101 => ⟨S10000x5, .f32⟩
  | 102 => ⟨S10000x5, .f32⟩
  | 103 => ⟨S10000x5, .f32⟩
  | 104 => ⟨S10000x5, .f32⟩
  | 105 => ⟨S10000x5x1, .f32⟩
  | 106 => ⟨S10000x5x1, .f32⟩
  | 107 => ⟨S10000x5x1, .f32⟩
  | 108 => ⟨S10000x5x1, .f32⟩
  | 109 => ⟨S10000x5x1, .f32⟩
  | 110 => ⟨S10000x5x1, .f32⟩
  | 111 => ⟨S10000x5x6, .f32⟩
  | 112 => ⟨S10000x5x128, .f32⟩
  | 113 => ⟨S1x1x128, .f32⟩
  | 114 => ⟨S10000x5x128, .f32⟩
  | 115 => ⟨S10000x5x128, .f32⟩
  | 116 => ⟨S_, .f32⟩
  | 117 => ⟨S10000x5x128, .f32⟩
  | 118 => ⟨S10000x5x128, .f32⟩
  | 119 => ⟨S10000x5x128, .f32⟩
  | 120 => ⟨S1x1x128, .f32⟩
  | 121 => ⟨S10000x5x128, .f32⟩
  | 122 => ⟨S10000x5x128, .f32⟩
  | 123 => ⟨S10000x5x128, .f32⟩
  | 124 => ⟨S6x128, .f32⟩
  | 125 => ⟨S1x128, .f32⟩
  | 126 => ⟨S6x128, .f32⟩
  | 127 => ⟨S6x128, .f32⟩
  | _ => ⟨S10000x50x2, .f32⟩

abbrev hbmTy0_1 (i : Nat) : BufTy := match i % 128 with
  | 0 => ⟨S6x8x16, .f32⟩
  | 1 => ⟨S10000x5x128, .f32⟩
  | 2 => ⟨S10000x5x128, .f32⟩
  | 3 => ⟨S1x1x128, .f32⟩
  | 4 => ⟨S10000x5x128, .f32⟩
  | 5 => ⟨S10000x5x128, .f32⟩
  | 6 => ⟨S10000x5x8x16, .f32⟩
  | 7 => ⟨S10000x5x128, .f32⟩
  | 8 => ⟨S10000x5x128, .f32⟩
  | 9 => ⟨S1x1x128, .f32⟩
  | 10 => ⟨S10000x5x128, .f32⟩
  | 11 => ⟨S10000x5x128, .f32⟩
  | 12 => ⟨S10000x5x8x16, .f32⟩
  | 13 => ⟨S1x1x6x8x16, .f32⟩
  | 14 => ⟨S10000x5x1x8x16, .f32⟩
  | 15 => ⟨S10000x5x6x8x16, .f32⟩
  | 16 => ⟨S10000x5x6x8x16, .f32⟩
  | 17 => ⟨S10000x5x6x8x16, .f32⟩
  | 18 => ⟨S_, .f32⟩
  | 19 => ⟨S10000x5x6x8, .f32⟩
  | 20 => ⟨S_, .f32⟩
  | 21 => ⟨S10000x5x6x8, .f32⟩
  | 22 => ⟨S10000x5x6x8, .f32⟩
  | 23 => ⟨S_, .f32⟩
  | 24 => ⟨S10000x6x8, .f32⟩
  | 25 => ⟨S10000x1x6x8, .f32⟩
  | 26 => ⟨S10000x5x6x8, .f32⟩
  | 27 => ⟨S10000x5x6x8, .f32⟩
  | 28 => ⟨S10000x5x6x8, .f32⟩
  | 29 => ⟨S_, .f32⟩
  | 30 => ⟨S10000x6x8, .f32⟩
  | 31 => ⟨S10000x1x6x8, .f32⟩
  | 32 => ⟨S_, .f32⟩
  | 33 => ⟨S10000x1x6x8, .f32⟩
  | 34 => ⟨S10000x1x6x8, .f32⟩
  | 35 => ⟨S10000x5x6x8, .f32⟩
  | 36 => ⟨S10000x5x6x8, .f32⟩
  | 37 => ⟨S10000x5x6x8x1, .f32⟩
  | 38 => ⟨S10000x5x1x8x16, .f32⟩
  | 39 => ⟨S10000x5x6x8x16, .f32⟩
  | 40 => ⟨S10000x5x6x8x16, .f32⟩
  | 41 => ⟨S10000x5x6x8x16, .f32⟩
  | 42 => ⟨S_, .f32⟩
  | 43 => ⟨S10000x6x8x16, .f32⟩
  | 44 => ⟨S10000x6x128, .f32⟩
  | 45 => ⟨S10000x6x128, .f32⟩
  | 46 => ⟨S1x6x128, .f32⟩
  | 47 => ⟨S10000x6x128, .f32⟩
  | 48 => ⟨S10000x6x128, .f32⟩
  | 49 => ⟨S1x1x128, .f32⟩
  | 50 => ⟨S10000x6x128, .f32⟩
  | 51 => ⟨S10000x6x128, .f32⟩
  | 52 => ⟨S10000x6x128, .f32⟩
  | 53 => ⟨S1x1x128, .f32⟩
  | 54 => ⟨S10000x6x128, .f32⟩
  | 55 => ⟨S10000x6x128, .f32⟩
  | 56 => ⟨S_, .f32⟩
  | 57 => ⟨S10000x6x128, .f32⟩
  | 58 => ⟨S10000x6x128, .f32⟩
  | 59 => ⟨S10000x6x120, .f32⟩
  | 60 => ⟨S1x1x120, .f32⟩
  | 61 => ⟨S10000x6x120, .f32⟩
  | 62 => ⟨S10000x6x120, .f32⟩
  | 63 => ⟨S10000x6x60x2, .f32⟩
  | _ => ⟨S10000x50x2, .f32⟩

abbrev hbmTy (i : Nat) : BufTy := match i / 128 with
  | 0 => hbmTy0_0 i
  | 1 => hbmTy0_1 i
  | _ => ⟨S10000x50x2, .f32⟩

abbrev bufTy : (tb : Table) → Fin (tcTables nBuf tb) → BufTy
  | .hbm, ⟨i, _⟩ => hbmTy i
  | _, _ => ⟨S10000x50x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_call0_cst_1 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c : Ref sig .tc := ⟨.hbm, 92, rfl⟩
abbrev main_v52 : Ref sig .tc := ⟨.hbm, 93, rfl⟩
abbrev main_v53 : Ref sig .tc := ⟨.hbm, 94, rfl⟩
abbrev main_c_4 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_call1_cst : Ref sig .tc := ⟨.hbm, 116, rfl⟩
abbrev main_call1_v0 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_5 : Ref sig .tc := ⟨.hbm, 146, rfl⟩
abbrev main_v102 : Ref sig .tc := ⟨.hbm, 147, rfl⟩
abbrev main_cst_6 : Ref sig .tc := ⟨.hbm, 148, rfl⟩
abbrev main_v103 : Ref sig .tc := ⟨.hbm, 149, rfl⟩
abbrev main_v104 : Ref sig .tc := ⟨.hbm, 150, rfl⟩
abbrev main_cst_7 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_8 : Ref sig .tc := ⟨.hbm, 157, rfl⟩
abbrev main_v110 : Ref sig .tc := ⟨.hbm, 158, rfl⟩
abbrev main_v111 : Ref sig .tc := ⟨.hbm, 159, rfl⟩
abbrev main_cst_9 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_10 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_call2_cst : Ref sig .tc := ⟨.hbm, 184, rfl⟩
abbrev main_call2_v0 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩

abbrev nD : Nat := 1
abbrev τ : Topo := Topo.v7x

variable {F : FTy → Type} [FloatOps F]
-- ==== Proof.KernelIdealPoint.lean ====
/-
  One grid point of the kernel, run on whole staging buffers: the fourteen input buffers keep their contents and the
  output buffer receives six column blocks.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxRecDepth 16384
set_option maxHeartbeats 4000000 in
/-- The six stores of one grid point (the last one first), found by running the body, with the proof that the body,
    started with the input buffers at `x0 … x13` and the output buffer at anything, ends with the input buffers
    unchanged and the output buffer overwritten by those stores. -/
def kernelRun (c : Dev nD) (i : grid0.Coords) (a0 : Memref sig .tc .vmem S5x1024 .f32) (h0 : a0.IsWhole) (a1 : Memref sig .tc .vmem S5x1024 .f32) (h1 : a1.IsWhole) (a2 : Memref sig .tc .vmem S5x1024 .f32) (h2 : a2.IsWhole) (a3 : Memref sig .tc .vmem S5x1024x128 .f32) (h3 : a3.IsWhole) (a4 : Memref sig .tc .vmem S7x128 .f32) (h4 : a4.IsWhole) (a5 : Memref sig .tc .vmem S128x48 .f32) (h5 : a5.IsWhole) (a6 : Memref sig .tc .vmem S128x48 .f32) (h6 : a6.IsWhole) (a7 : Memref sig .tc .vmem S128x128 .f32) (h7 : a7.IsWhole) (a8 : Memref sig .tc .vmem S128x128 .f32) (h8 : a8.IsWhole) (a9 : Memref sig .tc .vmem S1x128 .f32) (h9 : a9.IsWhole) (a10 : Memref sig .tc .vmem S128x128 .f32) (h10 : a10.IsWhole) (a11 : Memref sig .tc .vmem S6x128 .f32) (h11 : a11.IsWhole) (a12 : Memref sig .tc .vmem S128x120 .f32) (h12 : a12.IsWhole) (a13 : Memref sig .tc .vmem S1x120 .f32) (h13 : a13.IsWhole) (a14 : Memref sig .tc .vmem S1024x720 .f32) (h14 : a14.IsWhole)
    (x0 : Vec F S5x1024 .f32) (x1 : Vec F S5x1024 .f32) (x2 : Vec F S5x1024 .f32) (x3 : Vec F S5x1024x128 .f32) (x4 : Vec F S7x128 .f32) (x5 : Vec F S128x48 .f32) (x6 : Vec F S128x48 .f32) (x7 : Vec F S128x128 .f32) (x8 : Vec F S128x128 .f32) (x9 : Vec F S1x128 .f32) (x10 : Vec F S128x128 .f32) (x11 : Vec F S6x128 .f32) (x12 : Vec F S128x120 .f32) (x13 : Vec F S1x120 .f32) :
    { L : List (View.Piece (Elt F) S1024x720 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ f, a14.view.loc (c : Thread nD τ) ↦[a14.view.set]{fullShare} a14.view.writes (Elt F) f L)) -∗ K ⟨⟩))
          ⊢ wp frame (wpE (defs₀ (F := F)) Variants.none c none) E (cc0__traj_kernel i a0 h0 a1 h1 a2 h2 a3 h3 a4 h4 a5 h5 a6 h6 a7 h7 a8 h8 a9 h9 a10 h10 a11 h11 a12 h12 a13 h13 a14 h14) K } := by
  refine ⟨?_, fun E K => ?run⟩
  case run =>
    rw [cc0__traj_kernel_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec_parts
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    iexists _; iexact H14

end Cert.KernelIdeal.Point

end
-- ==== Proof.KernelIdealFrame.lean ====
/-
  The frame of `KernelIdeal`: the program runs, its arguments end unchanged and every semaphore counter ends at zero. Nothing is
  said of what the kernel writes into the output array; the first four inputs' last block overhangs its array.
-/
module

public import proofs.«01_k».proof.Proof.KernelIdealPoint
public import proofs.«01_k».proof.Proof.Gen.KernelIdeal.Frame

@[expose] public section

noncomputable section

namespace Cert.KernelIdeal.Unnamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input buffer at its block; nothing owed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => fun _ => Scalar.ofBits .f32 0#32
  Φ _ := Pipeline.ΦA spec0 c
  q _ := fullShare
  owed _ := 0

/-- The window whose contents this run does not name: the output. -/
def unnamed : Fin 15 → Bool := fun w => w.val == 14

/-- Window 0 is fetched at every point: its buffer holds the block, and `d` past the array's end. -/
theorem before_0 (c : Dev nD) (t : Fin cfg0.N) (d) :
    (dats m 0 c).before 0 t d = win0_0.fill (grid0.coords t) d (iblk m c 0 t) := by
  unfold Dat.before; rw [if_pos (fetch0_0 t)]; rfl

/-- Window 1 is fetched at every point: its buffer holds the block, and `d` past the array's end. -/
theorem before_1 (c : Dev nD) (t : Fin cfg0.N) (d) :
    (dats m 0 c).before 1 t d = win0_1.fill (grid0.coords t) d (iblk m c 1 t) := by
  unfold Dat.before; rw [if_pos (fetch0_1 t)]; rfl

/-- Window 2 is fetched at every point: its buffer holds the block, and `d` past the array's end. -/
theorem before_2 (c : Dev nD) (t : Fin cfg0.N) (d) :
    (dats m 0 c).before 2 t d = win0_2.fill (grid0.coords t) d (iblk m c 2 t) := by
  unfold Dat.before; rw [if_pos (fetch0_2 t)]; rfl

/-- Window 3 is fetched at every point: its buffer holds the block, and `d` past the array's end. -/
theorem before_3 (c : Dev nD) (t : Fin cfg0.N) (d) :
    (dats m 0 c).before 3 t d = win0_3.fill (grid0.coords t) d (iblk m c 3 t) := by
  unfold Dat.before; rw [if_pos (fetch0_3 t)]; rfl

/-- Window 4's buffer holds its whole array at every point. -/
theorem before_4 (c : Dev nD) (t : Fin cfg0.N) (d) : (dats m 0 c).before 4 t d = iblk m c 4 t :=
  before0_4_of m (dats m 0 c) rfl (fun _ => rfl) t d

/-- Window 5's buffer holds its whole array at every point. -/
theorem before_5 (c : Dev nD) (t : Fin cfg0.N) (d) : (dats m 0 c).before 5 t d = iblk m c 5 t :=
  before0_5_of m (dats m 0 c) rfl (fun _ => rfl) t d

/-- Window 6's buffer holds its whole array at every point. -/
theorem before_6 (c : Dev nD) (t : Fin cfg0.N) (d) : (dats m 0 c).before 6 t d = iblk m c 6 t :=
  before0_6_of m (dats m 0 c) rfl (fun _ => rfl) t d

/-- Window 7's buffer holds its whole array at every point. -/
theorem before_7 (c : Dev nD) (t : Fin cfg0.N) (d) : (dats m 0 c).before 7 t d = iblk m c 7 t :=
  before0_7_of m (dats m 0 c) rfl (fun _ => rfl) t d

/-- Window 8's buffer holds its whole array at every point. -/
theorem before_8 (c : Dev nD) (t : Fin cfg0.N) (d) : (dats m 0 c).before 8 t d = iblk m c 8 t :=
  before0_8_of m (dats m 0 c) rfl (fun _ => rfl) t d

/-- Window 9's buffer holds its whole array at every point. -/
theorem before_9 (c : Dev nD) (t : Fin cfg0.N) (d) : (dats m 0 c).before 9 t d = iblk m c 9 t :=
  before0_9_of m (dats m 0 c) rfl (fun _ => rfl) t d

/-- Window 10's buffer holds its whole array at every point. -/
theorem before_10 (c : Dev nD) (t : Fin cfg0.N) (d) : (dats m 0 c).before 10 t d = iblk m c 10 t :=
  before0_10_of m (dats m 0 c) rfl (fun _ => rfl) t d

/-- Window 11's buffer holds its whole array at every point. -/
theorem before_11 (c : Dev nD) (t : Fin cfg0.N) (d) : (dats m 0 c).before 11 t d = iblk m c 11 t :=
  before0_11_of m (dats m 0 c) rfl (fun _ => rfl) t d

/-- Window 12's buffer holds its whole array at every point. -/
theorem before_12 (c : Dev nD) (t : Fin cfg0.N) (d) : (dats m 0 c).before 12 t d = iblk m c 12 t :=
  before0_12_of m (dats m 0 c) rfl (fun _ => rfl) t d

/-- Window 13's buffer holds its whole array at every point. -/
theorem before_13 (c : Dev nD) (t : Fin cfg0.N) (d) : (dats m 0 c).before 13 t d = iblk m c 13 t :=
  before0_13_of m (dats m 0 c) rfl (fun _ => rfl) t d

set_option maxRecDepth 16384 in
set_option maxHeartbeats 2000000 in
/-- The body at every point, from the run of one point. -/
theorem body (c : Dev nD) : BodyObligationLoose (dats m 0 c) (defs₀ (F := F)) Variants.none () Set.univ unnamed := fun t => by
  rw [bigSep_W0, bigSep_W0]
  simp only [show unnamed 0 = false from rfl, show unnamed 1 = false from rfl, show unnamed 2 = false from rfl, show unnamed 3 = false from rfl, show unnamed 4 = false from rfl, show unnamed 5 = false from rfl, show unnamed 6 = false from rfl, show unnamed 7 = false from rfl, show unnamed 8 = false from rfl, show unnamed 9 = false from rfl, show unnamed 10 = false from rfl, show unnamed 11 = false from rfl, show unnamed 12 = false from rfl, show unnamed 13 = false from rfl, show unnamed 14 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12, before_13 m c t d13]
  iapply ((Point.kernelRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14))
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, ⟨%f14, H14⟩⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (win0_0.fill (grid0.coords t) (fun _ => Scalar.ofBits .f32 0#32) (iblk m c 0 t))))
    rw [Pipeline.Window.cut_fill]; try iexact H0
  isplitl [H1]
  · iexists d1
    change _ ⊢ owns (c : Thread nD τ) (st0_1 t) fullShare (win0_1.fill (grid0.coords t) d1 (win0_1.cut (grid0.coords t) (win0_1.fill (grid0.coords t) (fun _ => Scalar.ofBits .f32 0#32) (iblk m c 1 t))))
    rw [Pipeline.Window.cut_fill]; try iexact H1
  isplitl [H2]
  · iexists d2
    change _ ⊢ owns (c : Thread nD τ) (st0_2 t) fullShare (win0_2.fill (grid0.coords t) d2 (win0_2.cut (grid0.coords t) (win0_2.fill (grid0.coords t) (fun _ => Scalar.ofBits .f32 0#32) (iblk m c 2 t))))
    rw [Pipeline.Window.cut_fill]; try iexact H2
  isplitl [H3]
  · iexists d3
    change _ ⊢ owns (c : Thread nD τ) (st0_3 t) fullShare (win0_3.fill (grid0.coords t) d3 (win0_3.cut (grid0.coords t) (win0_3.fill (grid0.coords t) (fun _ => Scalar.ofBits .f32 0#32) (iblk m c 3 t))))
    rw [Pipeline.Window.cut_fill]; try iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns
  iexists _, _; isplitr; swap; · iexact H14
  ipureintro; rfl

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  Pipeline.θ_run_frame_around_T_forget cfgs (dats m) (0 : Fin 1) launch0 defs₀ Variants.none unnamed {main_v40} m ρ main
    (body m) (fun c w => (dats m 0 c).share_full (fun _ => rfl) w) (fun _ _ => rfl) (V0 m) [hostOps1]
    sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      exact Finset.mem_singleton.mpr (Proc.devRef_injective _ hb))
    (hmain m Variants.none) (fun _ _ => rfl) (fun _ _ => rfl) _
    (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      (Pipeline.RDat.FramePostR.arr_in h.1 c 7 rfl).trans (V_main_arg12 m c),
      ((h.1 c).2 main_arg13 (Finset.mem_sdiff.mpr ⟨Pipeline.mem_restRefs_of main_arg13 (by decide) (by decide), by decide⟩)).trans (V_main_arg13 m c),
      ((h.1 c).2 main_arg14 (Finset.mem_sdiff.mpr ⟨Pipeline.mem_restRefs_of main_arg14 (by decide) (by decide), by decide⟩)).trans (V_main_arg14 m c),
      ((h.1 c).2 main_arg15 (Finset.mem_sdiff.mpr ⟨Pipeline.mem_restRefs_of main_arg15 (by decide) (by decide), by decide⟩)).trans (V_main_arg15 m c),
      ((h.1 c).2 main_arg16 (Finset.mem_sdiff.mpr ⟨Pipeline.mem_restRefs_of main_arg16 (by decide) (by decide), by decide⟩)).trans (V_main_arg16 m c),
      ((h.1 c).2 main_arg17 (Finset.mem_sdiff.mpr ⟨Pipeline.mem_restRefs_of main_arg17 (by decide) (by decide), by decide⟩)).trans (V_main_arg17 m c),
      (Pipeline.RDat.FramePostR.arr_in h.1 c 12 rfl).trans (V_main_arg18 m c),
      ((h.1 c).2 main_arg19 (Finset.mem_sdiff.mpr ⟨Pipeline.mem_restRefs_of main_arg19 (by decide) (by decide), by decide⟩)).trans (V_main_arg19 m c)⟩, h.2⟩)

end Cert.KernelIdeal.Unnamed

end
-- ==== Proof.ReferenceFrame.lean ====
/-
  The frame of the reference: it runs, its arguments end unchanged and every semaphore counter ends at zero (it has none).
-/
module

public import proofs.«01_k».proof.Proof.Gen.ReferenceIdeal.Run
public import Idealize.ShloMosaic.Lib.Quiescent

@[expose] public section

noncomputable section

namespace Cert.ReferenceIdeal.Whole

open Cert.ReferenceIdeal Cert.ReferenceIdeal.Gen
open Idealize.ShloMosaic Idealize.ShloMosaic.TcCoe Idealize.SL.Sem

variable {F : FTy → Type} [FloatOps F]

/-- The reference's frame, read off its run. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => (h c).2, sem_eq_zero_of_no_sems (by decide) r.2⟩) (Value.run m ρ)

end Cert.ReferenceIdeal.Whole

end
-- ==== Proof.RealForms.lean ====
/-
  The operations of the idealized programs at finite numbers, and the constants both programs print.
-/
module

public import Idealize.ShloMosaic.Lib.Pointwise
public import Idealize.ShloMosaic.Lib.IdealHost

@[expose] public section

noncomputable section

namespace Cert.Finite

open Idealize.ShloMosaic

/-- A finite sum of finite numbers is finite, and is the sum of the reals. -/
theorem sum_coe {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

/-- The greater of two finite numbers is the greater of the reals. -/
theorem max_coe (x y : ℝ) : max (x : EReal) (y : EReal) = ((max x y : ℝ) : EReal) :=
  (EReal.coe_strictMono.monotone.map_max).symm

/-- The quotient of finite numbers by one that is not zero is the quotient of the reals. -/
theorem div_coe_coe {y : ℝ} (h : y ≠ 0) (x : ℝ) : Ideal.div (x : EReal) (y : EReal) = ((x / y : ℝ) : EReal) := by
  rw [Ideal.div_coe h, ← EReal.coe_mul, mul_one_div]

/-- The greater of a finite number and zero. -/
theorem max_coe_zero (x : ℝ) : max (x : EReal) 0 = ((max x 0 : ℝ) : EReal) := max_coe x 0

/-- The reciprocal of a finite number that is not zero. -/
theorem one_div_coe {y : ℝ} (h : y ≠ 0) : Ideal.div 1 (y : EReal) = ((1 / y : ℝ) : EReal) := div_coe_coe h 1

/-- The root of a finite number that is not negative is the root of the real. -/
theorem sqrt_coe_nonneg {x : ℝ} (h : 0 ≤ x) : Ideal.sqrt (x : EReal) = ((Real.sqrt x : ℝ) : EReal) := by
  rw [Ideal.sqrt_coe, if_neg (not_lt.mpr h)]

/-- The number added under the root of a squared length. -/
def e12 : ℝ := 9223372 / 2 ^ 63

/-- The number added to a direction's first coordinate. -/
def e6 : ℝ := 8796093 / 2 ^ 43

/-- The least length a direction is divided by. -/
def tiny : ℝ := 10633824 / 2 ^ 123

/-- The number added to a softmax's denominator. -/
def e9 : ℝ := 9007199 / 2 ^ 53

theorem e12_pos : 0 < e12 := by unfold e12; positivity
theorem tiny_pos : 0 < tiny := by unfold tiny; positivity
theorem e9_pos : 0 < e9 := by unfold e9; positivity

theorem bits_e12 : Ideal.ofBits .f32 0x2B8CBCCC#32 = ((e12 : ℝ) : EReal) := by
  unfold e12; simp [Ideal.ofBits, Ideal.ieee, -EReal.coe_mul]; norm_num

theorem bits_e6 : Ideal.ofBits .f32 0x358637BD#32 = ((e6 : ℝ) : EReal) := by
  unfold e6; simp [Ideal.ofBits, Ideal.ieee, -EReal.coe_mul]; norm_num

theorem bits_tiny : Ideal.ofBits .f32 0x0DA24260#32 = ((tiny : ℝ) : EReal) := by
  unfold tiny; simp [Ideal.ofBits, Ideal.ieee, -EReal.coe_mul]; norm_num

theorem bits_e9 : Ideal.ofBits .f32 0x3089705F#32 = ((e9 : ℝ) : EReal) := by
  unfold e9; simp [Ideal.ofBits, Ideal.ieee, -EReal.coe_mul]; norm_num

theorem bits_quarter : Ideal.ofBits .f32 0x3E800000#32 = ((1 / 4 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee, -EReal.coe_mul]

theorem bits_one : Ideal.ofBits .f32 0x3F800000#32 = ((1 : ℝ) : EReal) := by
  simp [Ideal.ofBits, Ideal.ieee, -EReal.coe_mul]; norm_num

theorem bits_neg1 : Ideal.ofBits .f32 0xBF800000#32 = ((-1 : ℝ) : EReal) := by
  simp [Ideal.ofBits, Ideal.ieee, -EReal.coe_mul, -EReal.coe_neg]; norm_num

theorem bits_neg2 : Ideal.ofBits .f32 0xC0000000#32 = ((-2 : ℝ) : EReal) := by
  simp [Ideal.ofBits, Ideal.ieee, -EReal.coe_mul, -EReal.coe_neg]; norm_num

theorem bits_neg3 : Ideal.ofBits .f32 0xC0400000#32 = ((-3 : ℝ) : EReal) := by
  simp [Ideal.ofBits, Ideal.ieee, -EReal.coe_mul, -EReal.coe_neg]; norm_num

theorem bits_neg4 : Ideal.ofBits .f32 0xC0800000#32 = ((-4 : ℝ) : EReal) := by
  simp [Ideal.ofBits, Ideal.ieee, -EReal.coe_mul, -EReal.coe_neg]; norm_num

theorem bits_neg5 : Ideal.ofBits .f32 0xC0A00000#32 = ((-5 : ℝ) : EReal) := by
  simp [Ideal.ofBits, Ideal.ieee, -EReal.coe_mul, -EReal.coe_neg]; norm_num

theorem bits_inf : Ideal.ofBits .f32 0x7F800000#32 = (⊤ : EReal) := by
  simp [Ideal.ofBits, Ideal.ieee]

theorem bits_neg_inf : Ideal.ofBits .f32 0xFF800000#32 = (⊥ : EReal) := by
  simp [Ideal.ofBits, Ideal.ieee]

end Cert.Finite

end
-- ==== Proof.Formula.lean ====
/-
  What the kernel computes for one agent, over the reals.
-/
module

public import proofs.«01_k».proof.Proof.RealForms

@[expose] public section

noncomputable section

namespace Cert.Formula

open Cert.Finite

/-- One agent's last five steps: position, heading and embedding. -/
structure Steps where
  px : Fin 5 → ℝ
  py : Fin 5 → ℝ
  hd : Fin 5 → ℝ
  ae : Fin 5 → Fin 128 → ℝ

/-- The weights as the kernel's grid sees them: products of the model's weights. -/
structure Staged where
  W1 : Fin 7 → Fin 128 → ℝ
  KQ : Fin 128 → Fin 48 → ℝ
  EKQ : Fin 128 → Fin 48 → ℝ
  V : Fin 128 → Fin 128 → ℝ
  EV : Fin 128 → Fin 128 → ℝ
  b2 : Fin 128 → ℝ
  OP : Fin 128 → Fin 128 → ℝ
  cm : Fin 6 → Fin 128 → EReal

/-- The model's weights, all but the last layer's; the biases `bo` and `bp1` may be any extended reals. -/
structure Weights where
  mode : Fin 6 → Fin 128 → ℝ
  We1 : Fin 6 → Fin 128 → ℝ
  be1 : Fin 128 → ℝ
  We2 : Fin 128 → Fin 128 → ℝ
  be2 : Fin 128 → ℝ
  Wq : Fin 128 → Fin 128 → ℝ
  bq : Fin 128 → ℝ
  Wk : Fin 128 → Fin 128 → ℝ
  bk : Fin 128 → ℝ
  Wv : Fin 128 → Fin 128 → ℝ
  bv : Fin 128 → ℝ
  Wo : Fin 128 → Fin 128 → ℝ
  bo : Fin 128 → EReal
  Wp1 : Fin 128 → Fin 128 → ℝ
  bp1 : Fin 128 → EReal

/-- Whether value column `d` belongs to the head of row `r`. -/
def head (d : Fin 128) (r : Fin 48) : ℝ := if d.val / 16 = r.val % 8 then 1 else 0

/-- The products of weights the kernel forms before its grid. -/
def staged (P : Weights) : Staged where
  W1 i d := if h : i.val < 6 then P.We1 ⟨i.val, h⟩ d else P.be1 d
  KQ d r := ∑ e, P.Wk d e * (((∑ k, P.mode ⟨r.val / 8, by omega⟩ k * P.Wq k e) + P.bq e) * (1 / 4) * head e r)
  EKQ d r := ∑ e, P.We2 d e * ∑ k, P.Wk e k * (((∑ l, P.mode ⟨r.val / 8, by omega⟩ l * P.Wq l k) + P.bq k) * (1 / 4) * head k r)
  V := P.Wv
  EV d e := ∑ k, P.We2 d k * P.Wv k e
  b2 e := (∑ k, P.be2 k * P.Wv k e) + P.bv e
  OP d h := ∑ k, P.Wo d k * P.Wp1 k h
  cm m h := ((∑ k, P.mode m k * P.Wp1 k h : ℝ) : EReal) + ((∑ k, P.bo k * ((P.Wp1 k h : ℝ) : EReal)) + P.bp1 h)

variable (S : Staged) (X : Steps)

/-- A step's place along the agent's last heading. -/
def fwd (t : Fin 5) : ℝ := Real.cos (X.hd 4) * (X.px t - X.px 4) + Real.sin (X.hd 4) * (X.py t - X.py 4)

/-- A step's place across the agent's last heading. -/
def side (t : Fin 5) : ℝ := -Real.sin (X.hd 4) * (X.px t - X.px 4) + Real.cos (X.hd 4) * (X.py t - X.py 4)

/-- The length of the displacement. -/
def len (t : Fin 5) : ℝ := Real.sqrt (fwd X t * fwd X t + side X t * side X t + e12)

/-- The first coordinate of the direction. -/
def ahead (t : Fin 5) : ℝ := fwd X t + e6

/-- The length the direction is divided by. -/
def reach (t : Fin 5) : ℝ := max (Real.sqrt (ahead X t * ahead X t + side X t * side X t)) tiny

/-- The heading relative to the last one. -/
def turn (t : Fin 5) : ℝ := X.hd t - X.hd 4

/-- The hidden layer of the edge features. -/
def edgeHid (t : Fin 5) (d : Fin 128) : ℝ :=
  max (len X t * S.W1 0 d + side X t / reach X t * S.W1 1 d + ahead X t / reach X t * S.W1 2 d + Real.sin (turn X t) * S.W1 3 d
    + Real.cos (turn X t) * S.W1 4 d + ((t.val : ℝ) - 5) * S.W1 5 d + S.W1 6 d) 0

/-- A step's score for a mode and head. -/
def score (t : Fin 5) (r : Fin 48) : ℝ := (∑ d, X.ae t d * S.KQ d r) + ∑ d, edgeHid S X t d * S.EKQ d r

/-- A step's value. -/
def val (t : Fin 5) (d : Fin 128) : ℝ := (∑ e, X.ae t e * S.V e d) + (∑ e, edgeHid S X t e * S.EV e d) + S.b2 d

/-- The greatest score. -/
def top (r : Fin 48) : ℝ := max (max (max (max (score S X 0 r) (score S X 1 r)) (score S X 2 r)) (score S X 3 r)) (score S X 4 r)

/-- The exponential of a score below the greatest. -/
def ex (t : Fin 5) (r : Fin 48) : ℝ := Real.exp (score S X t r - top S X r)

/-- The sum of the exponentials. -/
def den (r : Fin 48) : ℝ := ex S X 0 r + ex S X 1 r + ex S X 2 r + ex S X 3 r + ex S X 4 r

/-- The reciprocal of the denominator. -/
def inv (r : Fin 48) : ℝ := 1 / (den S X r + e9)

/-- Which mode and head a value column belongs to. -/
def sel (r : Fin 48) (o : Fin 768) : ℝ := if o.val / 128 = r.val / 8 ∧ o.val % 128 / 16 = r.val % 8 then 1 else 0

/-- A step's attention weight, spread over the value columns of all modes. -/
def spread (t : Fin 5) (o : Fin 768) : ℝ := ∑ r, ex S X t r * inv S X r * sel r o

/-- The column of mode `m`, value `d`. -/
def col (m : Fin 6) (d : Fin 128) : Fin 768 := ⟨128 * m.val + d.val, by omega⟩

/-- One step's part of the message. -/
def part (m : Fin 6) (t : Fin 5) (d : Fin 128) : ℝ := spread S X t (col m d) * val S X t d

/-- The message of a mode. -/
def acc (m : Fin 6) (d : Fin 128) : ℝ := part S X m 0 d + part S X m 1 d + part S X m 2 d + part S X m 3 d + part S X m 4 d

/-- The hidden layer of the proposal. -/
def hid (m : Fin 6) (h : Fin 128) : EReal := max (((∑ d, acc S X m d * S.OP d h : ℝ) : EReal) + S.cm m h) 0

/-- The proposal: the last layer, whose weights may be any extended reals. -/
def out (Wp2 : Fin 128 → Fin 120 → EReal) (bp2 : Fin 120 → EReal) (m : Fin 6) (o : Fin 120) : EReal :=
  (∑ h, hid S X m h * Wp2 h o) + bp2 o

theorem den_pos (r : Fin 48) : 0 < den S X r + e9 := by
  have := e9_pos
  unfold den ex
  positivity

theorem reach_pos (t : Fin 5) : 0 < reach X t := lt_of_lt_of_le tiny_pos (le_max_right _ _)

end Cert.Formula

end
-- ==== Proof.KernelRow.lean ====
/-
  The kernel's block values at one row whose staged numbers are finite: each is a real, computed as the
  real formula says.
-/
module

public import proofs.«01_k».proof.Proof.Gen.KernelIdeal.Skeleton
public import proofs.«01_k».proof.Proof.Formula

@[expose] public section

set_option maxRecDepth 16384

noncomputable section

namespace Cert.KernelIdeal.Row

open Cert.KernelIdeal Cert.KernelIdeal.Gen Cert.Finite Cert.Formula
open Idealize.ShloMosaic Idealize.ShloMosaic.TcCoe

variable (b : Fin 1024) (S : Staged) (X : Steps)

section Features

variable {v0 v2 v4 : Vec Ideal S5x1024 .f32}

/-- The place along the heading. -/
theorem pay8_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) : k0_pay8 v0 v2 v4 (ix2 t b) = ((fwd X t : ℝ) : EReal) := by
  pointwise [k0_pay8, k0_pay4, k0_pay3, k0_pay2, k0_pay5, k0_pay6, k0_pay7]
  simp only [h0, h2, h4, Ideal.cos_coe, Ideal.sin_coe, ← EReal.coe_sub, ← EReal.coe_mul, ← EReal.coe_add, fwd]

/-- The place across the heading. -/
theorem pay9_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) : k0_pay9 v0 v2 v4 (ix2 t b) = ((side X t : ℝ) : EReal) := by
  pointwise [k0_pay9, k0_pay4, k0_pay3, k0_pay2, k0_pay5, k0_pay6, k0_pay7]
  simp only [h0, h2, h4, Ideal.cos_coe, Ideal.sin_coe, zero_sub, ← EReal.coe_neg, ← EReal.coe_sub, ← EReal.coe_mul, ← EReal.coe_add, side]

/-- The length of the displacement. -/
theorem pay10_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) : k0_pay10 v0 v2 v4 (ix2 t b) = ((len X t : ℝ) : EReal) := by
  have hp : 0 ≤ fwd X t * fwd X t + side X t * side X t + e12 := by
    have := e12_pos
    nlinarith [mul_self_nonneg (fwd X t), mul_self_nonneg (side X t)]
  pointwise [k0_pay10]
  simp only [pay8_row b X h0 h2 h4, pay9_row b X h0 h2 h4, bits_e12, ← EReal.coe_mul, ← EReal.coe_add, sqrt_coe_nonneg hp, len]

/-- The direction's first coordinate. -/
theorem pay11_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) : k0_pay11 v0 v2 v4 (ix2 t b) = ((ahead X t : ℝ) : EReal) := by
  pointwise [k0_pay11]
  simp only [pay8_row b X h0 h2 h4, bits_e6, ← EReal.coe_add, ahead]

/-- The length the direction is divided by. -/
theorem pay12_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) : k0_pay12 v0 v2 v4 (ix2 t b) = ((reach X t : ℝ) : EReal) := by
  have hp : 0 ≤ ahead X t * ahead X t + side X t * side X t := by
    nlinarith [mul_self_nonneg (ahead X t), mul_self_nonneg (side X t)]
  pointwise [k0_pay12]
  simp only [pay11_row b X h0 h2 h4, pay9_row b X h0 h2 h4, bits_tiny, ← EReal.coe_mul, ← EReal.coe_add, sqrt_coe_nonneg hp, max_coe, reach]

/-- The sine of the direction. -/
theorem pay13_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) :
    k0_pay13 v0 v2 v4 (ix2 t b) = ((side X t / reach X t : ℝ) : EReal) := by
  pointwise [k0_pay13]
  simp only [pay9_row b X h0 h2 h4, pay12_row b X h0 h2 h4, div_coe_coe (reach_pos X t).ne']

/-- The cosine of the direction. -/
theorem pay14_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) (t : Fin 5) :
    k0_pay14 v0 v2 v4 (ix2 t b) = ((ahead X t / reach X t : ℝ) : EReal) := by
  pointwise [k0_pay14]
  simp only [pay11_row b X h0 h2 h4, pay12_row b X h0 h2 h4, div_coe_coe (reach_pos X t).ne']

/-- The sine of the relative heading. -/
theorem pay16_row (h4 : ∀ t : Fin 5, v4 (ix2 t b) = ((X.hd t : ℝ) : EReal)) (t : Fin 5) :
    k0_pay16 v4 (ix2 t b) = ((Real.sin (turn X t) : ℝ) : EReal) := by
  pointwise [k0_pay16, k0_pay15, k0_pay3, k0_pay2]
  simp only [h4, ← EReal.coe_sub, Ideal.sin_coe, turn]

/-- The cosine of the relative heading. -/
theorem pay17_row (h4 : ∀ t : Fin 5, v4 (ix2 t b) = ((X.hd t : ℝ) : EReal)) (t : Fin 5) :
    k0_pay17 v4 (ix2 t b) = ((Real.cos (turn X t) : ℝ) : EReal) := by
  pointwise [k0_pay17, k0_pay15, k0_pay3, k0_pay2]
  simp only [h4, ← EReal.coe_sub, Ideal.cos_coe, turn]

/-- The first step's length, cut out as a row. -/
theorem pay18_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) : k0_pay18 v0 v2 v4 (ix2 0 b) = ((len X 0 : ℝ) : EReal) := by
  pointwise [k0_pay18]
  exact pay10_row b X h0 h2 h4 0

/-- The second step's length, cut out as a row. -/
theorem pay19_row (h0 : ∀ t : Fin 5, v0 (ix2 t b) = ((X.px t : ℝ) : EReal)) (h2 : ∀ t : Fin 5, v2 (ix2 t b) = ((X.py t : ℝ) : EReal))
    (h4 : ∀ t : Fin 5, v4 (ix2 t b) = ((X.hd t : ℝ) : EReal)) : k0_pay19 v0 v2 v4 (ix2 0 b) = ((len X 1 : ℝ) : EReal) := by
  pointwise [k0_pay19]
  exact pay10_row b X h0 h2 h4 1

end Features

section Edge

variable {v32 v41 v42 v45 v46 : FVec Ideal S5x1024 .f32} {v47 v48 : FVec Ideal S1x1024 .f32} {v85 : Vec Ideal S7x128 .f32}

set_option maxHeartbeats 1600000 in
/-- The hidden layer of the edge features, step 0. -/
theorem pay20_row0 (h32 : ∀ t : Fin 5, v32 (ix2 t b) = ((len X t : ℝ) : EReal))
    (h41 : ∀ t : Fin 5, v41 (ix2 t b) = ((side X t / reach X t : ℝ) : EReal)) (h42 : ∀ t : Fin 5, v42 (ix2 t b) = ((ahead X t / reach X t : ℝ) : EReal))
    (h45 : ∀ t : Fin 5, v45 (ix2 t b) = ((Real.sin (turn X t) : ℝ) : EReal)) (h46 : ∀ t : Fin 5, v46 (ix2 t b) = ((Real.cos (turn X t) : ℝ) : EReal))
    (h47 : v47 (ix2 0 b) = ((len X 0 : ℝ) : EReal)) (h48 : v48 (ix2 0 b) = ((len X 1 : ℝ) : EReal))
    (h85 : ∀ (i : Fin 7) (d : Fin 128), v85 (ix2 i d) = ((S.W1 i d : ℝ) : EReal)) (d : Fin 128) :
    k0_pay20 v32 v41 v42 v45 v46 v47 v48 v85 (ix2 ⟨b.val, by omega⟩ d) = ((edgeHid S X 0 d : ℝ) : EReal) := by
  have hb := b.isLt
  have e0 : b.val < 1024 := by omega
  pointwise [k0_pay20]
  simp only [Fin.sum_univ_seven, dif_pos e0, Fin.eta, h47, h48, h85, bits_neg1, bits_neg2, bits_neg3, bits_neg4, bits_neg5]
  simp [h32, h41, h42, h45, h46, -EReal.coe_mul, -EReal.coe_neg, -EReal.coe_add]
  have ht : (((0 : Fin 5).val : ℝ) - 5) = -5 := by norm_num
  simp only [h47, h48, ← EReal.coe_mul, ← EReal.coe_add, max_coe_zero, edgeHid, ht]

set_option maxHeartbeats 1600000 in
/-- The hidden layer of the edge features, step 1. -/
theorem pay20_row1 (h32 : ∀ t : Fin 5, v32 (ix2 t b) = ((len X t : ℝ) : EReal))
    (h41 : ∀ t : Fin 5, v41 (ix2 t b) = ((side X t / reach X t : ℝ) : EReal)) (h42 : ∀ t : Fin 5, v42 (ix2 t b) = ((ahead X t / reach X t : ℝ) : EReal))
    (h45 : ∀ t : Fin 5, v45 (ix2 t b) = ((Real.sin (turn X t) : ℝ) : EReal)) (h46 : ∀ t : Fin 5, v46 (ix2 t b) = ((Real.cos (turn X t) : ℝ) : EReal))
    (h47 : v47 (ix2 0 b) = ((len X 0 : ℝ) : EReal)) (h48 : v48 (ix2 0 b) = ((len X 1 : ℝ) : EReal))
    (h85 : ∀ (i : Fin 7) (d : Fin 128), v85 (ix2 i d) = ((S.W1 i d : ℝ) : EReal)) (d : Fin 128) :
    k0_pay20 v32 v41 v42 v45 v46 v47 v48 v85 (ix2 ⟨1024 + b.val, by omega⟩ d) = ((edgeHid S X 1 d : ℝ) : EReal) := by
  have hb := b.isLt
  have e0 : ¬ (1024 + b.val < 1024) := by omega
  have e1 : 1024 + b.val - 1024 < 1024 := by omega
  have e : 1024 + b.val - 1024 = b.val := by omega
  pointwise [k0_pay20]
  simp only [Fin.sum_univ_seven, dif_neg e0, dif_pos e1, e, Fin.eta, h47, h48, h85, bits_neg1, bits_neg2, bits_neg3, bits_neg4, bits_neg5]
  simp [h32, h41, h42, h45, h46, -EReal.coe_mul, -EReal.coe_neg, -EReal.coe_add]
  have ht : (((1 : Fin 5).val : ℝ) - 5) = -4 := by norm_num
  simp only [h47, h48, ← EReal.coe_mul, ← EReal.coe_add, max_coe_zero, edgeHid, ht]

set_option maxHeartbeats 1600000 in
/-- The hidden layer of the edge features, step 2. -/
theorem pay20_row2 (h32 : ∀ t : Fin 5, v32 (ix2 t b) = ((len X t : ℝ) : EReal))
    (h41 : ∀ t : Fin 5, v41 (ix2 t b) = ((side X t / reach X t : ℝ) : EReal)) (h42 : ∀ t : Fin 5, v42 (ix2 t b) = ((ahead X t / reach X t : ℝ) : EReal))
    (h45 : ∀ t : Fin 5, v45 (ix2 t b) = ((Real.sin (turn X t) : ℝ) : EReal)) (h46 : ∀ t : Fin 5, v46 (ix2 t b) = ((Real.cos (turn X t) : ℝ) : EReal))
    (h47 : v47 (ix2 0 b) = ((len X 0 : ℝ) : EReal)) (h48 : v48 (ix2 0 b) = ((len X 1 : ℝ) : EReal))
    (h85 : ∀ (i : Fin 7) (d : Fin 128), v85 (ix2 i d) = ((S.W1 i d : ℝ) : EReal)) (d : Fin 128) :
    k0_pay20 v32 v41 v42 v45 v46 v47 v48 v85 (ix2 ⟨2048 + b.val, by omega⟩ d) = ((edgeHid S X 2 d : ℝ) : EReal) := by
  have hb := b.isLt
  have e0 : ¬ (2048 + b.val < 1024) := by omega
  have e1 : ¬ (2048 + b.val - 1024 < 1024) := by omega
  have e2 : 2048 + b.val - 1024 - 1024 < 1024 := by omega
  have e : 2048 + b.val - 1024 - 1024 = b.val := by omega
  pointwise [k0_pay20]
  simp only [Fin.sum_univ_seven, dif_neg e0, dif_neg e1, dif_pos e2, e, Fin.eta, h47, h48, h85, bits_neg1, bits_neg2, bits_neg3, bits_neg4, bits_neg5]
  simp [h32, h41, h42, h45, h46, -EReal.coe_mul, -EReal.coe_neg, -EReal.coe_add]
  have ht : (((2 : Fin 5).val : ℝ) - 5) = -3 := by norm_num
  simp only [h47, h48, ← EReal.coe_mul, ← EReal.coe_add, max_coe_zero, edgeHid, ht]

set_option maxHeartbeats 1600000 in
/-- The hidden layer of the edge features, step 3. -/
theorem pay20_row3 (h32 : ∀ t : Fin 5, v32 (ix2 t b) = ((len X t : ℝ) : EReal))
    (h41 : ∀ t : Fin 5, v41 (ix2 t b) = ((side X t / reach X t : ℝ) : EReal)) (h42 : ∀ t : Fin 5, v42 (ix2 t b) = ((ahead X t / reach X t : ℝ) : EReal))
    (h45 : ∀ t : Fin 5, v45 (ix2 t b) = ((Real.sin (turn X t) : ℝ) : EReal)) (h46 : ∀ t : Fin 5, v46 (ix2 t b) = ((Real.cos (turn X t) : ℝ) : EReal))
    (h47 : v47 (ix2 0 b) = ((len X 0 : ℝ) : EReal)) (h48 : v48 (ix2 0 b) = ((len X 1 : ℝ) : EReal))
    (h85 : ∀ (i : Fin 7) (d : Fin 128), v85 (ix2 i d) = ((S.W1 i d : ℝ) : EReal)) (d : Fin 128) :
    k0_pay20 v32 v41 v42 v45 v46 v47 v48 v85 (ix2 ⟨3072 + b.val, by omega⟩ d) = ((edgeHid S X 3 d : ℝ) : EReal) := by
  have hb := b.isLt
  have e0 : ¬ (3072 + b.val < 1024) := by omega
  have e1 : ¬ (3072 + b.val - 1024 < 1024) := by omega
  have e2 : ¬ (3072 + b.val - 1024 - 1024 < 1024) := by omega
  have e3 : 3072 + b.val - 1024 - 1024 - 1024 < 1024 := by omega
  have e : 3072 + b.val - 1024 - 1024 - 1024 = b.val := by omega
  pointwise [k0_pay20]
  simp only [Fin.sum_univ_seven, dif_neg e0, dif_neg e1, dif_neg e2, dif_pos e3, e, Fin.eta, h47, h48, h85, bits_neg1, bits_neg2, bits_neg3, bits_neg4, bits_neg5]
  simp [h32, h41, h42, h45, h46, -EReal.coe_mul, -EReal.coe_neg, -EReal.coe_add]
  have ht : (((3 : Fin 5).val : ℝ) - 5) = -2 := by norm_num
  simp only [h47, h48, ← EReal.coe_mul, ← EReal.coe_add, max_coe_zero, edgeHid, ht]

set_option maxHeartbeats 1600000 in
/-- The hidden layer of the edge features, step 4. -/
theorem pay20_row4 (h32 : ∀ t : Fin 5, v32 (ix2 t b) = ((len X t : ℝ) : EReal))
    (h41 : ∀ t : Fin 5, v41 (ix2 t b) = ((side X t / reach X t : ℝ) : EReal)) (h42 : ∀ t : Fin 5, v42 (ix2 t b) = ((ahead X t / reach X t : ℝ) : EReal))
    (h45 : ∀ t : Fin 5, v45 (ix2 t b) = ((Real.sin (turn X t) : ℝ) : EReal)) (h46 : ∀ t : Fin 5, v46 (ix2 t b) = ((Real.cos (turn X t) : ℝ) : EReal))
    (h47 : v47 (ix2 0 b) = ((len X 0 : ℝ) : EReal)) (h48 : v48 (ix2 0 b) = ((len X 1 : ℝ) : EReal))
    (h85 : ∀ (i : Fin 7) (d : Fin 128), v85 (ix2 i d) = ((S.W1 i d : ℝ) : EReal)) (d : Fin 128) :
    k0_pay20 v32 v41 v42 v45 v46 v47 v48 v85 (ix2 ⟨4096 + b.val, by omega⟩ d) = ((edgeHid S X 4 d : ℝ) : EReal) := by
  have hb := b.isLt
  have e0 : ¬ (4096 + b.val < 1024) := by omega
  have e1 : ¬ (4096 + b.val - 1024 < 1024) := by omega
  have e2 : ¬ (4096 + b.val - 1024 - 1024 < 1024) := by omega
  have e3 : ¬ (4096 + b.val - 1024 - 1024 - 1024 < 1024) := by omega
  have e : 4096 + b.val - 1024 - 1024 - 1024 - 1024 = b.val := by omega
  pointwise [k0_pay20]
  simp only [Fin.sum_univ_seven, dif_neg e0, dif_neg e1, dif_neg e2, dif_neg e3, e, Fin.eta, h47, h48, h85, bits_neg1, bits_neg2, bits_neg3, bits_neg4, bits_neg5]
  simp [h32, h41, h42, h45, h46, -EReal.coe_mul, -EReal.coe_neg, -EReal.coe_add]
  have ht : (((4 : Fin 5).val : ℝ) - 5) = -1 := by norm_num
  simp only [h47, h48, ← EReal.coe_mul, ← EReal.coe_add, max_coe_zero, edgeHid, ht]

end Edge

section Scores

variable {v89 : FVec Ideal S5120x128 .f32} {v91 v93 : FVec Ideal S128x48 .f32} {vae : Vec Ideal S1x1024x128 .f32}
  {v94 v96 : FVec Ideal S128x128 .f32} {v98 : FVec Ideal S1x128 .f32}

/-- The scores of step 0. -/
theorem pay27_row (h89 : ∀ d : Fin 128, v89 (ix2 ⟨b.val, by omega⟩ d) = ((edgeHid S X 0 d : ℝ) : EReal))
    (h91 : ∀ (d : Fin 128) (r : Fin 48), v91 (ix2 d r) = ((S.KQ d r : ℝ) : EReal)) (h93 : ∀ (d : Fin 128) (r : Fin 48), v93 (ix2 d r) = ((S.EKQ d r : ℝ) : EReal))
    (hae : ∀ d : Fin 128, vae (ix3 0 b d) = ((X.ae 0 d : ℝ) : EReal)) (r : Fin 48) :
    k0_pay27 v89 v91 v93 vae (ix2 b r) = ((score S X 0 r : ℝ) : EReal) := by
  pointwise [k0_pay27, k0_pay25, k0_pay26]
  simp only [h89, h91, h93, hae, sum_coe, ← EReal.coe_mul, ← EReal.coe_add, score]

/-- The scores of step 1. -/
theorem pay31_row (h89 : ∀ d : Fin 128, v89 (ix2 ⟨1024 + b.val, by omega⟩ d) = ((edgeHid S X 1 d : ℝ) : EReal))
    (h91 : ∀ (d : Fin 128) (r : Fin 48), v91 (ix2 d r) = ((S.KQ d r : ℝ) : EReal)) (h93 : ∀ (d : Fin 128) (r : Fin 48), v93 (ix2 d r) = ((S.EKQ d r : ℝ) : EReal))
    (hae : ∀ d : Fin 128, vae (ix3 0 b d) = ((X.ae 1 d : ℝ) : EReal)) (r : Fin 48) :
    k0_pay31 v89 v91 v93 vae (ix2 b r) = ((score S X 1 r : ℝ) : EReal) := by
  pointwise [k0_pay31, k0_pay29, k0_pay30]
  simp only [h89, h91, h93, hae, sum_coe, ← EReal.coe_mul, ← EReal.coe_add, score]

/-- The scores of step 2. -/
theorem pay35_row (h89 : ∀ d : Fin 128, v89 (ix2 ⟨2048 + b.val, by omega⟩ d) = ((edgeHid S X 2 d : ℝ) : EReal))
    (h91 : ∀ (d : Fin 128) (r : Fin 48), v91 (ix2 d r) = ((S.KQ d r : ℝ) : EReal)) (h93 : ∀ (d : Fin 128) (r : Fin 48), v93 (ix2 d r) = ((S.EKQ d r : ℝ) : EReal))
    (hae : ∀ d : Fin 128, vae (ix3 0 b d) = ((X.ae 2 d : ℝ) : EReal)) (r : Fin 48) :
    k0_pay35 v89 v91 v93 vae (ix2 b r) = ((score S X 2 r : ℝ) : EReal) := by
  pointwise [k0_pay35, k0_pay33, k0_pay34]
  simp only [h89, h91, h93, hae, sum_coe, ← EReal.coe_mul, ← EReal.coe_add, score]

/-- The scores of step 3. -/
theorem pay40_row (h89 : ∀ d : Fin 128, v89 (ix2 ⟨3072 + b.val, by omega⟩ d) = ((edgeHid S X 3 d : ℝ) : EReal))
    (h91 : ∀ (d : Fin 128) (r : Fin 48), v91 (ix2 d r) = ((S.KQ d r : ℝ) : EReal)) (h93 : ∀ (d : Fin 128) (r : Fin 48), v93 (ix2 d r) = ((S.EKQ d r : ℝ) : EReal))
    (hae : ∀ d : Fin 128, vae (ix3 0 b d) = ((X.ae 3 d : ℝ) : EReal)) (r : Fin 48) :
    k0_pay40 v89 v91 v93 vae (ix2 b r) = ((score S X 3 r : ℝ) : EReal) := by
  pointwise [k0_pay40, k0_pay38, k0_pay39]
  simp only [h89, h91, h93, hae, sum_coe, ← EReal.coe_mul, ← EReal.coe_add, score]

/-- The scores of step 4. -/
theorem pay44_row (h89 : ∀ d : Fin 128, v89 (ix2 ⟨4096 + b.val, by omega⟩ d) = ((edgeHid S X 4 d : ℝ) : EReal))
    (h91 : ∀ (d : Fin 128) (r : Fin 48), v91 (ix2 d r) = ((S.KQ d r : ℝ) : EReal)) (h93 : ∀ (d : Fin 128) (r : Fin 48), v93 (ix2 d r) = ((S.EKQ d r : ℝ) : EReal))
    (hae : ∀ d : Fin 128, vae (ix3 0 b d) = ((X.ae 4 d : ℝ) : EReal)) (r : Fin 48) :
    k0_pay44 v89 v91 v93 vae (ix2 b r) = ((score S X 4 r : ℝ) : EReal) := by
  pointwise [k0_pay44, k0_pay42, k0_pay43]
  simp only [h89, h91, h93, hae, sum_coe, ← EReal.coe_mul, ← EReal.coe_add, score]

/-- The values of step 0. -/
theorem pay28_row (h89 : ∀ d : Fin 128, v89 (ix2 ⟨b.val, by omega⟩ d) = ((edgeHid S X 0 d : ℝ) : EReal))
    (h94 : ∀ d e : Fin 128, v94 (ix2 d e) = ((S.V d e : ℝ) : EReal)) (h96 : ∀ d e : Fin 128, v96 (ix2 d e) = ((S.EV d e : ℝ) : EReal)) (h98 : ∀ d : Fin 128, v98 (ix2 0 d) = ((S.b2 d : ℝ) : EReal))
    (hae : ∀ d : Fin 128, vae (ix3 0 b d) = ((X.ae 0 d : ℝ) : EReal)) (d : Fin 128) :
    k0_pay28 v89 v94 v96 v98 vae (ix2 b d) = ((val S X 0 d : ℝ) : EReal) := by
  pointwise [k0_pay28, k0_pay25, k0_pay26, k0_pay23, k0_pay24]
  simp only [h89, h94, h96, h98, hae, sum_coe, ← EReal.coe_mul, ← EReal.coe_add, val]

/-- The values of step 1. -/
theorem pay32_row (h89 : ∀ d : Fin 128, v89 (ix2 ⟨1024 + b.val, by omega⟩ d) = ((edgeHid S X 1 d : ℝ) : EReal))
    (h94 : ∀ d e : Fin 128, v94 (ix2 d e) = ((S.V d e : ℝ) : EReal)) (h96 : ∀ d e : Fin 128, v96 (ix2 d e) = ((S.EV d e : ℝ) : EReal)) (h98 : ∀ d : Fin 128, v98 (ix2 0 d) = ((S.b2 d : ℝ) : EReal))
    (hae : ∀ d : Fin 128, vae (ix3 0 b d) = ((X.ae 1 d : ℝ) : EReal)) (d : Fin 128) :
    k0_pay32 v89 v94 v96 v98 vae (ix2 b d) = ((val S X 1 d : ℝ) : EReal) := by
  pointwise [k0_pay32, k0_pay29, k0_pay30, k0_pay23, k0_pay24]
  simp only [h89, h94, h96, h98, hae, sum_coe, ← EReal.coe_mul, ← EReal.coe_add, val]

/-- The values of step 3. -/
theorem pay41_row (h89 : ∀ d : Fin 128, v89 (ix2 ⟨3072 + b.val, by omega⟩ d) = ((edgeHid S X 3 d : ℝ) : EReal))
    (h94 : ∀ d e : Fin 128, v94 (ix2 d e) = ((S.V d e : ℝ) : EReal)) (h96 : ∀ d e : Fin 128, v96 (ix2 d e) = ((S.EV d e : ℝ) : EReal)) (h98 : ∀ d : Fin 128, v98 (ix2 0 d) = ((S.b2 d : ℝ) : EReal))
    (hae : ∀ d : Fin 128, vae (ix3 0 b d) = ((X.ae 3 d : ℝ) : EReal)) (d : Fin 128) :
    k0_pay41 v89 v94 v96 v98 vae (ix2 b d) = ((val S X 3 d : ℝ) : EReal) := by
  pointwise [k0_pay41, k0_pay38, k0_pay39]
  simp only [h89, h94, h96, h98, hae, sum_coe, ← EReal.coe_mul, ← EReal.coe_add, val]

/-- The values of step 4. -/
theorem pay45_row (h89 : ∀ d : Fin 128, v89 (ix2 ⟨4096 + b.val, by omega⟩ d) = ((edgeHid S X 4 d : ℝ) : EReal))
    (h94 : ∀ d e : Fin 128, v94 (ix2 d e) = ((S.V d e : ℝ) : EReal)) (h96 : ∀ d e : Fin 128, v96 (ix2 d e) = ((S.EV d e : ℝ) : EReal)) (h98 : ∀ d : Fin 128, v98 (ix2 0 d) = ((S.b2 d : ℝ) : EReal))
    (hae : ∀ d : Fin 128, vae (ix3 0 b d) = ((X.ae 4 d : ℝ) : EReal)) (d : Fin 128) :
    k0_pay45 v89 v94 v96 v98 vae (ix2 b d) = ((val S X 4 d : ℝ) : EReal) := by
  pointwise [k0_pay45, k0_pay42, k0_pay43]
  simp only [h89, h94, h96, h98, hae, sum_coe, ← EReal.coe_mul, ← EReal.coe_add, val]

/-- The values of step 2. -/
theorem pay37_row (h89 : ∀ d : Fin 128, v89 (ix2 ⟨2048 + b.val, by omega⟩ d) = ((edgeHid S X 2 d : ℝ) : EReal))
    (h94 : ∀ d e : Fin 128, v94 (ix2 d e) = ((S.V d e : ℝ) : EReal)) (h96 : ∀ d e : Fin 128, v96 (ix2 d e) = ((S.EV d e : ℝ) : EReal)) (h98 : ∀ d : Fin 128, v98 (ix2 0 d) = ((S.b2 d : ℝ) : EReal))
    (hae : ∀ d : Fin 128, vae (ix3 0 b d) = ((X.ae 2 d : ℝ) : EReal)) (d : Fin 128) :
    k0_pay37 v96 v98 (k0_pay34 v89) (k0_pay36 v94 vae) (constant S1024x128 .f32 0x00000000#32) (ix2 b d) = ((val S X 2 d : ℝ) : EReal) := by
  pointwise [k0_pay37, k0_pay34, k0_pay36, k0_pay33]
  simp only [h89, h94, h96, h98, hae, sum_coe, ← EReal.coe_mul, ← EReal.coe_add, val]

end Scores

section Weights

variable {v89 : FVec Ideal S5120x128 .f32} {v91 v93 : FVec Ideal S128x48 .f32} {v132 v143 : Vec Ideal S1x1024x128 .f32}
  {v104 v115 v126 : FVec Ideal S1024x48 .f32}

/-- The greatest score. -/
theorem pay46_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay46 v89 v91 v93 v104 v115 v126 v132 v143 (ix2 b r) = ((top S X r : ℝ) : EReal) := by
  pointwise [k0_pay46]
  simp only [h104, h115, h126, h40, h44, max_coe, top]

/-- The exponential of step 0. -/
theorem pay47_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay47 v89 v91 v93 v104 v115 v126 v132 v143 (ix2 b r) = ((ex S X 0 r : ℝ) : EReal) := by
  pointwise [k0_pay47]
  simp only [h104, h115, h126, h40, h44, pay46_row b S X h104 h115 h126 h40 h44, ← EReal.coe_sub, Ideal.exp_coe, ex]

/-- The exponential of step 1. -/
theorem pay48_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay48 v89 v91 v93 v104 v115 v126 v132 v143 (ix2 b r) = ((ex S X 1 r : ℝ) : EReal) := by
  pointwise [k0_pay48]
  simp only [h104, h115, h126, h40, h44, pay46_row b S X h104 h115 h126 h40 h44, ← EReal.coe_sub, Ideal.exp_coe, ex]

/-- The exponential of step 2. -/
theorem pay49_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay49 v89 v91 v93 v104 v115 v126 v132 v143 (ix2 b r) = ((ex S X 2 r : ℝ) : EReal) := by
  pointwise [k0_pay49]
  simp only [h104, h115, h126, h40, h44, pay46_row b S X h104 h115 h126 h40 h44, ← EReal.coe_sub, Ideal.exp_coe, ex]

/-- The exponential of step 3. -/
theorem pay50_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay50 v89 v91 v93 v104 v115 v126 v132 v143 (ix2 b r) = ((ex S X 3 r : ℝ) : EReal) := by
  pointwise [k0_pay50]
  simp only [h104, h115, h126, h40, h44, pay46_row b S X h104 h115 h126 h40 h44, ← EReal.coe_sub, Ideal.exp_coe, ex]

/-- The exponential of step 4. -/
theorem pay51_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay51 v89 v91 v93 v104 v115 v126 v132 v143 (ix2 b r) = ((ex S X 4 r : ℝ) : EReal) := by
  pointwise [k0_pay51]
  simp only [h104, h115, h126, h40, h44, pay46_row b S X h104 h115 h126 h40 h44, ← EReal.coe_sub, Ideal.exp_coe, ex]

/-- The sum of the exponentials. -/
theorem pay52_row (h104 : ∀ r : Fin 48, v104 (ix2 b r) = ((score S X 0 r : ℝ) : EReal)) (h115 : ∀ r : Fin 48, v115 (ix2 b r) = ((score S X 1 r : ℝ) : EReal))
    (h126 : ∀ r : Fin 48, v126 (ix2 b r) = ((score S X 2 r : ℝ) : EReal))
    (h40 : ∀ r : Fin 48, k0_pay40 v89 v91 v93 v132 (ix2 b r) = ((score S X 3 r : ℝ) : EReal))
    (h44 : ∀ r : Fin 48, k0_pay44 v89 v91 v93 v143 (ix2 b r) = ((score S X 4 r : ℝ) : EReal)) (r : Fin 48) :
    k0_pay52 v89 v91 v93 v104 v115 v126 v132 v143 (ix2 b r) = ((den S X r : ℝ) : EReal) := by
  pointwise [k0_pay52]
  simp only [pay47_row b S X h104 h115 h126 h40 h44, pay48_row b S X h104 h115 h126 h40 h44, pay49_row b S X h104 h115 h126 h40 h44, pay50_row b S X h104 h115 h126 h40 h44, pay51_row b S X h104 h115 h126 h40 h44, ← EReal.coe_add, den]

/-- The reciprocal of the denominator. -/
theorem pay54_row {v171 : FVec Ideal S1024x48 .f32} (h171 : ∀ r : Fin 48, v171 (ix2 b r) = ((den S X r : ℝ) : EReal)) (r : Fin 48) :
    k0_pay54 v171 k0_pay53 (ix2 b r) = ((inv S X r : ℝ) : EReal) := by
  pointwise [k0_pay54, k0_pay53]
  simp only [h171, bits_e9, ← EReal.coe_add, one_div_coe (den_pos S X r).ne', Formula.inv]

end Weights

end Cert.KernelIdeal.Row
-- ==== Proof.KernelRowOut.lean ====
/-
  The kernel's messages and proposals at one row whose scores and values are finite.
-/
module

public import proofs.«01_k».proof.Proof.Gen.KernelIdeal.Skeleton
public import proofs.«01_k».proof.Proof.Formula
public import Idealize.ShloMosaic.Lib.Pointwise

@[expose] public section

set_option maxRecDepth 16384

noncomputable section

namespace Cert.KernelIdeal.Row

open Cert.KernelIdeal Cert.KernelIdeal.Gen Cert.Finite Cert.Formula
open Idealize.ShloMosaic Idealize.ShloMosaic.TcCoe

variable (b : Fin 1024) (S : Staged) (X : Steps)

/-- The first mode's columns begin the row. -/
theorem col_zero (d : Fin 128) : col 0 d = ⟨d.val, by omega⟩ := Fin.ext (by simp [col])

section Spread

variable {v176 v244 v264 : IVec S48x768 32} {v226 v263 : IVec S48x768 1} {vex v175 : FVec Ideal S1024x48 .f32} {v286 : FVec Ideal S48x768 .f32}

/-- The attention weights of step 0 over the value columns. -/
theorem pay65_row (hex : ∀ r : Fin 48, vex (ix2 b r) = ((ex S X 0 r : ℝ) : EReal)) (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (o : Fin 768) :
    k0_pay65 vex v175 v176 v226 v244 v263 v264 (ix2 b o) = ((spread S X 0 o : ℝ) : EReal) := by
  pointwise [k0_pay65]
  simp only [hex, h175, hE, sum_coe, ← EReal.coe_mul, spread]

/-- The attention weights of step 1 over the value columns. -/
theorem pay68_row (hex : ∀ r : Fin 48, vex (ix2 b r) = ((ex S X 1 r : ℝ) : EReal)) (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (o : Fin 768) :
    k0_pay68 vex v175 v176 v226 v244 v263 v264 (ix2 b o) = ((spread S X 1 o : ℝ) : EReal) := by
  pointwise [k0_pay68]
  simp only [hex, h175, hE, sum_coe, ← EReal.coe_mul, spread]

/-- The attention weights of step 2 over the value columns. -/
theorem pay74_row (hex : ∀ r : Fin 48, vex (ix2 b r) = ((ex S X 2 r : ℝ) : EReal)) (h175 : ∀ r : Fin 48, v175 (ix2 b r) = ((inv S X r : ℝ) : EReal))
    (h286 : ∀ (r : Fin 48) (o : Fin 768), v286 (ix2 r o) = ((sel r o : ℝ) : EReal)) (o : Fin 768) :
    k0_pay74 vex v175 v286 (ix2 b o) = ((spread S X 2 o : ℝ) : EReal) := by
  pointwise [k0_pay74]
  simp only [hex, h175, h286, sum_coe, ← EReal.coe_mul, spread]

/-- The attention weights of step 3 over the value columns. -/
theorem pay75_row (hex : ∀ r : Fin 48, vex (ix2 b r) = ((ex S X 3 r : ℝ) : EReal)) (h175 : ∀ r : Fin 48, v175 (ix2 b r) = ((inv S X r : ℝ) : EReal))
    (h286 : ∀ (r : Fin 48) (o : Fin 768), v286 (ix2 r o) = ((sel r o : ℝ) : EReal)) (o : Fin 768) :
    k0_pay75 vex v175 v286 (ix2 b o) = ((spread S X 3 o : ℝ) : EReal) := by
  pointwise [k0_pay75]
  simp only [hex, h175, h286, sum_coe, ← EReal.coe_mul, spread]

/-- The attention weights of step 4 over the value columns. -/
theorem pay79_row (hex : ∀ r : Fin 48, vex (ix2 b r) = ((ex S X 4 r : ℝ) : EReal)) (h175 : ∀ r : Fin 48, v175 (ix2 b r) = ((inv S X r : ℝ) : EReal))
    (h286 : ∀ (r : Fin 48) (o : Fin 768), v286 (ix2 r o) = ((sel r o : ℝ) : EReal)) (o : Fin 768) :
    k0_pay79 vex v175 v286 (ix2 b o) = ((spread S X 4 o : ℝ) : EReal) := by
  pointwise [k0_pay79]
  simp only [hex, h175, h286, sum_coe, ← EReal.coe_mul, spread]

end Spread

section Messages

variable {v109 v120 v131 v142 v153 v298 v300 v305 v308 v311 v314 v316 v354 v357 v360 v373 : FVec Ideal S1024x128 .f32} {v175 v159 v161 v163 v165 v167 : FVec Ideal S1024x48 .f32}
  {v176 v244 v264 : IVec S48x768 32} {v226 v263 : IVec S48x768 1} {v286 : FVec Ideal S48x768 .f32} {v302 v362 : FVec Ideal S1024x768 .f32}

/-- Step 0's part of mode 4's message. -/
theorem pay66_row (h109 : ∀ d : Fin 128, v109 (ix2 b d) = ((val S X 0 d : ℝ) : EReal))
    (h159 : ∀ r : Fin 48, v159 (ix2 b r) = ((ex S X 0 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay66 v109 v159 v175 v176 v226 v244 v263 v264 (ix2 b d) = ((part S X 4 0 d : ℝ) : EReal) := by
  pointwise [k0_pay66]
  simp only [h109, pay65_row b S X h159 h175 hE, ← EReal.coe_mul, ← EReal.coe_add, part]
  rfl

/-- Step 0's part of mode 5's message. -/
theorem pay67_row (h109 : ∀ d : Fin 128, v109 (ix2 b d) = ((val S X 0 d : ℝ) : EReal))
    (h159 : ∀ r : Fin 48, v159 (ix2 b r) = ((ex S X 0 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay67 v109 v159 v175 v176 v226 v244 v263 v264 (ix2 b d) = ((part S X 5 0 d : ℝ) : EReal) := by
  pointwise [k0_pay67]
  simp only [h109, pay65_row b S X h159 h175 hE, ← EReal.coe_mul, ← EReal.coe_add, part]
  rfl

/-- The first two steps' part of mode 0's message. -/
theorem pay69_row (h109 : ∀ d : Fin 128, v109 (ix2 b d) = ((val S X 0 d : ℝ) : EReal))
    (h120 : ∀ d : Fin 128, v120 (ix2 b d) = ((val S X 1 d : ℝ) : EReal))
    (h159 : ∀ r : Fin 48, v159 (ix2 b r) = ((ex S X 0 r : ℝ) : EReal))
    (h161 : ∀ r : Fin 48, v161 (ix2 b r) = ((ex S X 1 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay69 v109 v120 v159 v161 v175 v176 v226 v244 v263 v264 (ix2 b d) = ((part S X 0 0 d + part S X 0 1 d : ℝ) : EReal) := by
  pointwise [k0_pay69]
  simp only [h109, h120, pay65_row b S X h159 h175 hE, pay68_row b S X h161 h175 hE, ← EReal.coe_mul, ← EReal.coe_add, part, col_zero]

/-- The first two steps' part of mode 1's message. -/
theorem pay70_row (h109 : ∀ d : Fin 128, v109 (ix2 b d) = ((val S X 0 d : ℝ) : EReal))
    (h120 : ∀ d : Fin 128, v120 (ix2 b d) = ((val S X 1 d : ℝ) : EReal))
    (h159 : ∀ r : Fin 48, v159 (ix2 b r) = ((ex S X 0 r : ℝ) : EReal))
    (h161 : ∀ r : Fin 48, v161 (ix2 b r) = ((ex S X 1 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay70 v109 v120 v159 v161 v175 v176 v226 v244 v263 v264 (ix2 b d) = ((part S X 1 0 d + part S X 1 1 d : ℝ) : EReal) := by
  pointwise [k0_pay70]
  simp only [h109, h120, pay65_row b S X h159 h175 hE, pay68_row b S X h161 h175 hE, ← EReal.coe_mul, ← EReal.coe_add, part]
  rfl

/-- The first two steps' part of mode 2's message. -/
theorem pay71_row (h109 : ∀ d : Fin 128, v109 (ix2 b d) = ((val S X 0 d : ℝ) : EReal))
    (h120 : ∀ d : Fin 128, v120 (ix2 b d) = ((val S X 1 d : ℝ) : EReal))
    (h159 : ∀ r : Fin 48, v159 (ix2 b r) = ((ex S X 0 r : ℝ) : EReal))
    (h161 : ∀ r : Fin 48, v161 (ix2 b r) = ((ex S X 1 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay71 v109 v120 v159 v161 v175 v176 v226 v244 v263 v264 (ix2 b d) = ((part S X 2 0 d + part S X 2 1 d : ℝ) : EReal) := by
  pointwise [k0_pay71]
  simp only [h109, h120, pay65_row b S X h159 h175 hE, pay68_row b S X h161 h175 hE, ← EReal.coe_mul, ← EReal.coe_add, part]
  rfl

/-- The first two steps' part of mode 3's message. -/
theorem pay72_row (h109 : ∀ d : Fin 128, v109 (ix2 b d) = ((val S X 0 d : ℝ) : EReal))
    (h120 : ∀ d : Fin 128, v120 (ix2 b d) = ((val S X 1 d : ℝ) : EReal))
    (h159 : ∀ r : Fin 48, v159 (ix2 b r) = ((ex S X 0 r : ℝ) : EReal))
    (h161 : ∀ r : Fin 48, v161 (ix2 b r) = ((ex S X 1 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay72 v109 v120 v159 v161 v175 v176 v226 v244 v263 v264 (ix2 b d) = ((part S X 3 0 d + part S X 3 1 d : ℝ) : EReal) := by
  pointwise [k0_pay72]
  simp only [h109, h120, pay65_row b S X h159 h175 hE, pay68_row b S X h161 h175 hE, ← EReal.coe_mul, ← EReal.coe_add, part]
  rfl

/-- Step 1's part of mode 4's message. -/
theorem pay73_row (h120 : ∀ d : Fin 128, v120 (ix2 b d) = ((val S X 1 d : ℝ) : EReal))
    (h161 : ∀ r : Fin 48, v161 (ix2 b r) = ((ex S X 1 r : ℝ) : EReal))
    (h175 : ∀ r : Fin 48, v175 (ix2 b r) = ((inv S X r : ℝ) : EReal))
    (hE : ∀ (r : Fin 48) (o : Fin 768), k0_pay64 (F := Ideal) v176 v226 v244 v263 v264 (ix2 r o) = ((sel r o : ℝ) : EReal)) (d : Fin 128) :
    k0_pay73 v120 v161 v175 v176 v226 v244 v263 v264 (ix2 b d) = ((part S X 4 1 d : ℝ) : EReal) := by
  pointwise [k0_pay73]
  simp only [h120, pay68_row b S X h161 h175 hE, ← EReal.coe_mul, ← EReal.coe_add, part]
  rfl

/-- The first four steps' part of mode 3's message. -/
theorem pay76_row (h131 : ∀ d : Fin 128, v131 (ix2 b d) = ((val S X 2 d : ℝ) : EReal))
    (h142 : ∀ d : Fin 128, v142 (ix2 b d) = ((val S X 3 d : ℝ) : EReal))
    (h163 : ∀ r : Fin 48, v163 (ix2 b r) = ((ex S X 2 r : ℝ) : EReal))
    (h165 : ∀ r : Fin 48, v165 (ix2 b r) = ((ex S X 3 r : ℝ) : EReal))
    (h175 : ∀ r : Fin 48, v175 (ix2 b r) = ((inv S X r : ℝ) : EReal))
    (h286 : ∀ (r : Fin 48) (o : Fin 768), v286 (ix2 r o) = ((sel r o : ℝ) : EReal))
    (h314 : ∀ d : Fin 128, v314 (ix2 b d) = ((part S X 3 0 d + part S X 3 1 d : ℝ) : EReal)) (d : Fin 128) :
    k0_pay76 v131 v142 v163 v165 v175 v286 v314 (ix2 b d) = ((part S X 3 0 d + part S X 3 1 d + part S X 3 2 d + part S X 3 3 d : ℝ) : EReal) := by
  pointwise [k0_pay76]
  simp only [h131, h142, h314, pay74_row b S X h163 h175 h286, pay75_row b S X h165 h175 h286, ← EReal.coe_mul, ← EReal.coe_add, part]
  rfl

/-- The first four steps' part of mode 4's message. -/
theorem pay77_row (h131 : ∀ d : Fin 128, v131 (ix2 b d) = ((val S X 2 d : ℝ) : EReal))
    (h142 : ∀ d : Fin 128, v142 (ix2 b d) = ((val S X 3 d : ℝ) : EReal))
    (h163 : ∀ r : Fin 48, v163 (ix2 b r) = ((ex S X 2 r : ℝ) : EReal))
    (h165 : ∀ r : Fin 48, v165 (ix2 b r) = ((ex S X 3 r : ℝ) : EReal))
    (h175 : ∀ r : Fin 48, v175 (ix2 b r) = ((inv S X r : ℝ) : EReal))
    (h286 : ∀ (r : Fin 48) (o : Fin 768), v286 (ix2 r o) = ((sel r o : ℝ) : EReal))
    (h298 : ∀ d : Fin 128, v298 (ix2 b d) = ((part S X 4 0 d : ℝ) : EReal))
    (h316 : ∀ d : Fin 128, v316 (ix2 b d) = ((part S X 4 1 d : ℝ) : EReal)) (d : Fin 128) :
    k0_pay77 v131 v142 v163 v165 v175 v286 v298 v316 (ix2 b d) = ((part S X 4 0 d + part S X 4 1 d + part S X 4 2 d + part S X 4 3 d : ℝ) : EReal) := by
  pointwise [k0_pay77]
  simp only [h131, h142, h298, h316, pay74_row b S X h163 h175 h286, pay75_row b S X h165 h175 h286, ← EReal.coe_mul, ← EReal.coe_add, part]
  rfl

/-- The first four steps' part of mode 5's message. -/
theorem pay78_row (h120 : ∀ d : Fin 128, v120 (ix2 b d) = ((val S X 1 d : ℝ) : EReal))
    (h131 : ∀ d : Fin 128, v131 (ix2 b d) = ((val S X 2 d : ℝ) : EReal))
    (h142 : ∀ d : Fin 128, v142 (ix2 b d) = ((val S X 3 d : ℝ) : EReal))
    (h163 : ∀ r : Fin 48, v163 (ix2 b r) = ((ex S X 2 r : ℝ) : EReal))
    (h165 : ∀ r : Fin 48, v165 (ix2 b r) = ((ex S X 3 r : ℝ) : EReal))
    (h175 : ∀ r : Fin 48, v175 (ix2 b r) = ((inv S X r : ℝ) : EReal))
    (h286 : ∀ (r : Fin 48) (o : Fin 768), v286 (ix2 r o) = ((sel r o : ℝ) : EReal))
    (h300 : ∀ d : Fin 128, v300 (ix2 b d) = ((part S X 5 0 d : ℝ) : EReal))
    (h302 : ∀ o : Fin 768, v302 (ix2 b o) = ((spread S X 1 o : ℝ) : EReal)) (d : Fin 128) :
    k0_pay78 v120 v131 v142 v163 v165 v175 v286 v300 v302 (ix2 b d) = ((part S X 5 0 d + part S X 5 1 d + part S X 5 2 d + part S X 5 3 d : ℝ) : EReal) := by
  pointwise [k0_pay78]
  simp only [h120, h131, h142, h300, h302, pay74_row b S X h163 h175 h286, pay75_row b S X h165 h175 h286, ← EReal.coe_mul, ← EReal.coe_add, part]
  rfl

/-- Mode 0's message. -/
theorem pay80_row (h131 : ∀ d : Fin 128, v131 (ix2 b d) = ((val S X 2 d : ℝ) : EReal))
    (h142 : ∀ d : Fin 128, v142 (ix2 b d) = ((val S X 3 d : ℝ) : EReal))
    (h153 : ∀ d : Fin 128, v153 (ix2 b d) = ((val S X 4 d : ℝ) : EReal))
    (h163 : ∀ r : Fin 48, v163 (ix2 b r) = ((ex S X 2 r : ℝ) : EReal))
    (h165 : ∀ r : Fin 48, v165 (ix2 b r) = ((ex S X 3 r : ℝ) : EReal))
    (h167 : ∀ r : Fin 48, v167 (ix2 b r) = ((ex S X 4 r : ℝ) : EReal))
    (h175 : ∀ r : Fin 48, v175 (ix2 b r) = ((inv S X r : ℝ) : EReal))
    (h286 : ∀ (r : Fin 48) (o : Fin 768), v286 (ix2 r o) = ((sel r o : ℝ) : EReal))
    (h305 : ∀ d : Fin 128, v305 (ix2 b d) = ((part S X 0 0 d + part S X 0 1 d : ℝ) : EReal)) (d : Fin 128) :
    k0_pay80 v131 v142 v153 v163 v165 v167 v175 v286 v305 (ix2 b d) = ((acc S X 0 d : ℝ) : EReal) := by
  pointwise [k0_pay80]
  simp only [h131, h142, h153, h305, pay74_row b S X h163 h175 h286, pay75_row b S X h165 h175 h286, pay79_row b S X h167 h175 h286, ← EReal.coe_mul, ← EReal.coe_add, acc, part, col_zero]

/-- Mode 1's message. -/
theorem pay81_row (h131 : ∀ d : Fin 128, v131 (ix2 b d) = ((val S X 2 d : ℝ) : EReal))
    (h142 : ∀ d : Fin 128, v142 (ix2 b d) = ((val S X 3 d : ℝ) : EReal))
    (h153 : ∀ d : Fin 128, v153 (ix2 b d) = ((val S X 4 d : ℝ) : EReal))
    (h163 : ∀ r : Fin 48, v163 (ix2 b r) = ((ex S X 2 r : ℝ) : EReal))
    (h165 : ∀ r : Fin 48, v165 (ix2 b r) = ((ex S X 3 r : ℝ) : EReal))
    (h167 : ∀ r : Fin 48, v167 (ix2 b r) = ((ex S X 4 r : ℝ) : EReal))
    (h175 : ∀ r : Fin 48, v175 (ix2 b r) = ((inv S X r : ℝ) : EReal))
    (h286 : ∀ (r : Fin 48) (o : Fin 768), v286 (ix2 r o) = ((sel r o : ℝ) : EReal))
    (h308 : ∀ d : Fin 128, v308 (ix2 b d) = ((part S X 1 0 d + part S X 1 1 d : ℝ) : EReal)) (d : Fin 128) :
    k0_pay81 v131 v142 v153 v163 v165 v167 v175 v286 v308 (ix2 b d) = ((acc S X 1 d : ℝ) : EReal) := by
  pointwise [k0_pay81]
  simp only [h131, h142, h153, h308, pay74_row b S X h163 h175 h286, pay75_row b S X h165 h175 h286, pay79_row b S X h167 h175 h286, ← EReal.coe_mul, ← EReal.coe_add, acc, part]
  rfl

/-- Mode 2's message. -/
theorem pay82_row (h131 : ∀ d : Fin 128, v131 (ix2 b d) = ((val S X 2 d : ℝ) : EReal))
    (h142 : ∀ d : Fin 128, v142 (ix2 b d) = ((val S X 3 d : ℝ) : EReal))
    (h153 : ∀ d : Fin 128, v153 (ix2 b d) = ((val S X 4 d : ℝ) : EReal))
    (h163 : ∀ r : Fin 48, v163 (ix2 b r) = ((ex S X 2 r : ℝ) : EReal))
    (h165 : ∀ r : Fin 48, v165 (ix2 b r) = ((ex S X 3 r : ℝ) : EReal))
    (h167 : ∀ r : Fin 48, v167 (ix2 b r) = ((ex S X 4 r : ℝ) : EReal))
    (h175 : ∀ r : Fin 48, v175 (ix2 b r) = ((inv S X r : ℝ) : EReal))
    (h286 : ∀ (r : Fin 48) (o : Fin 768), v286 (ix2 r o) = ((sel r o : ℝ) : EReal))
    (h311 : ∀ d : Fin 128, v311 (ix2 b d) = ((part S X 2 0 d + part S X 2 1 d : ℝ) : EReal)) (d : Fin 128) :
    k0_pay82 v131 v142 v153 v163 v165 v167 v175 v286 v311 (ix2 b d) = ((acc S X 2 d : ℝ) : EReal) := by
  pointwise [k0_pay82]
  simp only [h131, h142, h153, h311, pay74_row b S X h163 h175 h286, pay75_row b S X h165 h175 h286, pay79_row b S X h167 h175 h286, ← EReal.coe_mul, ← EReal.coe_add, acc, part]
  rfl

/-- Step 4's part of mode 3's message. -/
theorem pay83_row (h153 : ∀ d : Fin 128, v153 (ix2 b d) = ((val S X 4 d : ℝ) : EReal))
    (h167 : ∀ r : Fin 48, v167 (ix2 b r) = ((ex S X 4 r : ℝ) : EReal))
    (h175 : ∀ r : Fin 48, v175 (ix2 b r) = ((inv S X r : ℝ) : EReal))
    (h286 : ∀ (r : Fin 48) (o : Fin 768), v286 (ix2 r o) = ((sel r o : ℝ) : EReal)) (d : Fin 128) :
    k0_pay83 v153 v167 v175 v286 (ix2 b d) = ((part S X 3 4 d : ℝ) : EReal) := by
  pointwise [k0_pay83]
  simp only [h153, pay79_row b S X h167 h175 h286, ← EReal.coe_mul, ← EReal.coe_add, part]
  rfl

/-- Mode 3's message. -/
theorem pay84_row (h354 : ∀ d : Fin 128, v354 (ix2 b d) = ((part S X 3 0 d + part S X 3 1 d + part S X 3 2 d + part S X 3 3 d : ℝ) : EReal))
    (h373 : ∀ d : Fin 128, v373 (ix2 b d) = ((part S X 3 4 d : ℝ) : EReal)) (d : Fin 128) :
    k0_pay84 v354 v373 (ix2 b d) = ((acc S X 3 d : ℝ) : EReal) := by
  pointwise [k0_pay84]
  simp only [h354, h373, ← EReal.coe_mul, ← EReal.coe_add, acc, part]

/-- Mode 4's message. -/
theorem pay85_row (h153 : ∀ d : Fin 128, v153 (ix2 b d) = ((val S X 4 d : ℝ) : EReal))
    (h357 : ∀ d : Fin 128, v357 (ix2 b d) = ((part S X 4 0 d + part S X 4 1 d + part S X 4 2 d + part S X 4 3 d : ℝ) : EReal))
    (h362 : ∀ o : Fin 768, v362 (ix2 b o) = ((spread S X 4 o : ℝ) : EReal)) (d : Fin 128) :
    k0_pay85 v153 v357 v362 (ix2 b d) = ((acc S X 4 d : ℝ) : EReal) := by
  pointwise [k0_pay85]
  simp only [h153, h357, h362, ← EReal.coe_mul, ← EReal.coe_add, acc, part]
  rfl

/-- Mode 5's message. -/
theorem pay86_row (h153 : ∀ d : Fin 128, v153 (ix2 b d) = ((val S X 4 d : ℝ) : EReal))
    (h360 : ∀ d : Fin 128, v360 (ix2 b d) = ((part S X 5 0 d + part S X 5 1 d + part S X 5 2 d + part S X 5 3 d : ℝ) : EReal))
    (h362 : ∀ o : Fin 768, v362 (ix2 b o) = ((spread S X 4 o : ℝ) : EReal)) (d : Fin 128) :
    k0_pay86 v153 v360 v362 (ix2 b d) = ((acc S X 5 d : ℝ) : EReal) := by
  pointwise [k0_pay86]
  simp only [h153, h360, h362, ← EReal.coe_mul, ← EReal.coe_add, acc, part]
  rfl

end Messages

section Proposals

variable (Wp2 : Fin 128 → Fin 120 → EReal) (bp2 : Fin 120 → EReal) {vacc : FVec Ideal S1024x128 .f32} {v381 : Vec Ideal S6x128 .f32} {v383 : Vec Ideal S128x120 .f32}
  {v384 : Vec Ideal S1x120 .f32} {v386 : Vec Ideal S128x128 .f32}

/-- Mode 0's proposal. -/
theorem out0_row (hacc : ∀ d : Fin 128, vacc (ix2 b d) = ((acc S X 0 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay90 vacc v381 v383 v384 v386 (ix2 b o) = out S X Wp2 bp2 0 o := by
  pointwise [k0_pay87, k0_pay88, k0_pay89, k0_pay90]
  simp only [hacc, h381, h383, h384, h386, sum_coe, ← EReal.coe_mul, ← EReal.coe_add, max_coe_zero, out, hid]

/-- Mode 1's proposal. -/
theorem out1_row (hacc : ∀ d : Fin 128, vacc (ix2 b d) = ((acc S X 1 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay91 vacc v381 v383 v384 v386 (ix2 b o) = out S X Wp2 bp2 1 o := by
  pointwise [k0_pay87, k0_pay88, k0_pay89, k0_pay91]
  simp only [hacc, h381, h383, h384, h386, sum_coe, ← EReal.coe_mul, ← EReal.coe_add, max_coe_zero, out, hid]

/-- Mode 2's proposal. -/
theorem out2_row (hacc : ∀ d : Fin 128, vacc (ix2 b d) = ((acc S X 2 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay93 v383 (k0_pay88 v384) (k0_pay92 vacc v381 v386) (FloatOps.ofBits .f32 0x00000000#32) (ix2 b o) = out S X Wp2 bp2 2 o := by
  pointwise [k0_pay87, k0_pay88, k0_pay89, k0_pay92, k0_pay93]
  simp only [hacc, h381, h383, h384, h386, sum_coe, ← EReal.coe_mul, ← EReal.coe_add, max_coe_zero, out, hid]

/-- Mode 3's proposal. -/
theorem out3_row (hacc : ∀ d : Fin 128, vacc (ix2 b d) = ((acc S X 3 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay94 vacc (k0_pay87 v381) v383 (k0_pay88 v384) (k0_pay89 v386) (ix2 b o) = out S X Wp2 bp2 3 o := by
  pointwise [k0_pay87, k0_pay88, k0_pay89, k0_pay94]
  simp only [hacc, h381, h383, h384, h386, sum_coe, ← EReal.coe_mul, ← EReal.coe_add, max_coe_zero, out, hid]

/-- Mode 4's proposal. -/
theorem out4_row (hacc : ∀ d : Fin 128, vacc (ix2 b d) = ((acc S X 4 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay95 vacc (k0_pay87 v381) v383 (k0_pay88 v384) (k0_pay89 v386) (ix2 b o) = out S X Wp2 bp2 4 o := by
  pointwise [k0_pay87, k0_pay88, k0_pay89, k0_pay95]
  simp only [hacc, h381, h383, h384, h386, sum_coe, ← EReal.coe_mul, ← EReal.coe_add, max_coe_zero, out, hid]

/-- Mode 5's proposal. -/
theorem out5_row (hacc : ∀ d : Fin 128, vacc (ix2 b d) = ((acc S X 5 d : ℝ) : EReal))
    (h381 : ∀ (m : Fin 6) (d : Fin 128), v381 (ix2 m d) = S.cm m d) (h383 : ∀ (h : Fin 128) (o : Fin 120), v383 (ix2 h o) = Wp2 h o)
    (h384 : ∀ o : Fin 120, v384 (ix2 0 o) = bp2 o) (h386 : ∀ d h : Fin 128, v386 (ix2 d h) = ((S.OP d h : ℝ) : EReal)) (o : Fin 120) :
    k0_pay1 v383 (k0_pay88 v384) (k0_pay96 vacc (k0_pay87 v381) (k0_pay89 v386)) (constant S1024x120 .f32 0x00000000#32) (ix2 b o) = out S X Wp2 bp2 5 o := by
  pointwise [k0_pay1, k0_pay87, k0_pay88, k0_pay89, k0_pay96]
  simp only [hacc, h381, h383, h384, h386, sum_coe, ← EReal.coe_mul, ← EReal.coe_add, max_coe_zero, out, hid]

end Proposals

end Cert.KernelIdeal.Row
-- ==== Proof.KernelSelect.lean ====
/-
  The kernel's table of which mode and head each value column belongs to.
-/
module

public import proofs.«01_k».proof.Proof.Gen.KernelIdeal.Skeleton
public import proofs.«01_k».proof.Proof.Formula

@[expose] public section

set_option maxRecDepth 16384

noncomputable section

namespace Cert.KernelIdeal.Row

open Cert.KernelIdeal Cert.KernelIdeal.Gen Cert.Finite Cert.Formula
open Idealize.ShloMosaic Idealize.ShloMosaic.TcCoe

/-- The row numbers. -/
def rowIota : IVec S48x768 32 := iota .tc S48x768 32 [0] iota_S48x768_d0_w32

/-- The column numbers. -/
def colIota : IVec S48x768 32 := iota .tc S48x768 32 [1] iota_S48x768_d1_w32

/-- A column's mode. -/
theorem colMode (r : Fin 48) (o : Fin 768) : k0_pay55 (ix2 r o) = BitVec.ofNat 32 (o.val / 128) := by
  pointwise [k0_pay55]
  revert o
  decide +kernel

/-- A column's place within its mode. -/
theorem colPlace (r : Fin 48) (o : Fin 768) : k0_pay60 colIota (ix2 r o) = BitVec.ofNat 32 (o.val % 128) := by
  pointwise [k0_pay60, colIota]
  revert o
  decide +kernel

/-- Whether a column's mode is the row's. -/
theorem sameMode (r : Fin 48) (o : Fin 768) :
    k0_pay59 k0_pay55 k0_pay56 k0_pay57 k0_pay58 (ix2 r o) = if o.val / 128 = r.val / 8 then 1#1 else 0#1 := by
  pointwise [k0_pay59, k0_pay56, k0_pay57, k0_pay58, colMode]
  obtain ⟨q, hq⟩ : ∃ q : Fin 6, o.val / 128 = q.val := ⟨⟨o.val / 128, by omega⟩, rfl⟩
  rw [hq]
  revert r q
  decide +revert +kernel

/-- The table's bit. -/
def bit (r : Fin 48) (o : Fin 768) : BitVec 32 := if o.val / 128 = r.val / 8 ∧ o.val % 128 / 16 = r.val % 8 then 1#32 else 0#32

/-- The table the kernel multiplies by. -/
theorem sel_at (r : Fin 48) (o : Fin 768) :
    k0_pay64 (F := Ideal) rowIota (k0_pay59 k0_pay55 k0_pay56 k0_pay57 k0_pay58) (k0_pay61 colIota) (k0_pay62 colIota) k0_pay63 (ix2 r o) = ((sel r o : ℝ) : EReal) := by
  have hs : sel r o = (((bit r o).toInt : ℤ) : ℝ) := by
    unfold sel bit
    split <;> simp
  rw [hs]
  pointwise [k0_pay64, k0_pay63, k0_pay61, k0_pay62, rowIota, colPlace, sameMode]
  refine congrArg (fun x : BitVec 32 => (((x.toInt : ℤ) : ℝ) : EReal)) ?_
  obtain ⟨q, hq⟩ : ∃ q : Fin 128, o.val % 128 = q.val := ⟨⟨o.val % 128, by omega⟩, rfl⟩
  unfold bit
  rw [hq]
  by_cases h : o.val / 128 = r.val / 8
  · simp only [h, true_and, if_true]
    clear h hq hs
    revert r q
    decide +revert +kernel
  · simp only [h, false_and, if_false]
    clear h hq hs
    revert r q
    decide +revert +kernel

end Cert.KernelIdeal.Row
-- ==== Proof.KernelOut.lean ====
/-
  What one grid point of the kernel leaves in its output buffer: at row `b` the six proposals of agent `b`.
-/
module

public import proofs.«01_k».proof.Proof.KernelIdealPoint
public import proofs.«01_k».proof.Proof.KernelRow
public import proofs.«01_k».proof.Proof.KernelRowOut
public import proofs.«01_k».proof.Proof.KernelSelect

@[expose] public section

set_option maxRecDepth 16384

noncomputable section

namespace Cert.KernelIdeal.Row

open Cert.KernelIdeal Cert.KernelIdeal.Gen Cert.KernelIdeal.Point Cert.Finite Cert.Formula
open Idealize.ShloMosaic Idealize.ShloMosaic.TcCoe

variable (b : Fin 1024) (S : Staged) (X : Steps)

/-- The score weights pass through unchanged. -/
theorem pay21_at (v : Vec Ideal S128x48 .f32) (d : Fin 128) (r : Fin 48) : k0_pay21 v (ix2 d r) = v (ix2 d r) := by
  pointwise [k0_pay21]

/-- The edge score weights pass through unchanged. -/
theorem pay22_at (v : Vec Ideal S128x48 .f32) (d : Fin 128) (r : Fin 48) : k0_pay22 v (ix2 d r) = v (ix2 d r) := by
  pointwise [k0_pay22]

/-- The edge value weights pass through unchanged. -/
theorem pay23_at (v : Vec Ideal S128x128 .f32) (d e : Fin 128) : k0_pay23 v (ix2 d e) = v (ix2 d e) := by
  pointwise [k0_pay23]

/-- The value bias passes through unchanged. -/
theorem pay24_at (v : Vec Ideal S1x128 .f32) (d : Fin 128) : k0_pay24 v (ix2 0 d) = v (ix2 0 d) := by
  pointwise [k0_pay24]

section Point

variable (Wp2 : Fin 128 → Fin 120 → EReal) (bp2 : Fin 120 → EReal) (c : Dev nD) (a0 : Memref sig .tc .vmem S5x1024 .f32) (h0 : a0.IsWhole) (a1 : Memref sig .tc .vmem S5x1024 .f32) (h1 : a1.IsWhole) (a2 : Memref sig .tc .vmem S5x1024 .f32) (h2 : a2.IsWhole) (a3 : Memref sig .tc .vmem S5x1024x128 .f32) (h3 : a3.IsWhole) (a4 : Memref sig .tc .vmem S7x128 .f32) (h4 : a4.IsWhole) (a5 : Memref sig .tc .vmem S128x48 .f32) (h5 : a5.IsWhole) (a6 : Memref sig .tc .vmem S128x48 .f32) (h6 : a6.IsWhole) (a7 : Memref sig .tc .vmem S128x128 .f32) (h7 : a7.IsWhole) (a8 : Memref sig .tc .vmem S128x128 .f32) (h8 : a8.IsWhole) (a9 : Memref sig .tc .vmem S1x128 .f32) (h9 : a9.IsWhole) (a10 : Memref sig .tc .vmem S128x128 .f32) (h10 : a10.IsWhole) (a11 : Memref sig .tc .vmem S6x128 .f32) (h11 : a11.IsWhole) (a12 : Memref sig .tc .vmem S128x120 .f32) (h12 : a12.IsWhole) (a13 : Memref sig .tc .vmem S1x120 .f32) (h13 : a13.IsWhole)
  (a14 : Memref sig .tc .vmem S1024x720 .f32) (h14 : a14.IsWhole)
  (x0 : Vec Ideal S5x1024 .f32) (x1 : Vec Ideal S5x1024 .f32) (x2 : Vec Ideal S5x1024 .f32) (x3 : Vec Ideal S5x1024x128 .f32) (x4 : Vec Ideal S7x128 .f32) (x5 : Vec Ideal S128x48 .f32) (x6 : Vec Ideal S128x48 .f32) (x7 : Vec Ideal S128x128 .f32) (x8 : Vec Ideal S128x128 .f32) (x9 : Vec Ideal S1x128 .f32) (x10 : Vec Ideal S128x128 .f32) (x11 : Vec Ideal S6x128 .f32) (x12 : Vec Ideal S128x120 .f32) (x13 : Vec Ideal S1x120 .f32) (i : grid0.Coords)

/-- Mode 0's stored block. -/
def stored0 : FVec Ideal S1024x120 .f32 :=
  k0_pay90 (kernelRun.sl.r_43 c a0 h0 a1 h1 a2 h2 a3 h3 a4 h4 a5 h5 a6 h6 a7 h7 a8 h8 a9 h9 x0 x1 x2 x3 x4 x5 x6 x7 x8 x9) (View.readAt (Elt Ideal) a11.view (Rect.unit ![0, 0] S6x128.size inb_S6x128_S6x128_0_0).toLoadRect (h11.unread x11)) (View.readAt (Elt Ideal) a12.view (Rect.unit ![0, 0] S128x120.size inb_S128x120_S128x120_0_0).toLoadRect (h12.unread x12)) (View.readAt (Elt Ideal) a13.view (Rect.unit ![0, 0] S1x120.size inb_S1x120_S1x120_0_0).toLoadRect (h13.unread x13)) (View.readAt (Elt Ideal) a10.view (Rect.unit ![0, 0] S128x128.size inb_S128x128_S128x128_0_0).toLoadRect (h10.unread x10))

/-- Mode 1's stored block. -/
def stored1 : FVec Ideal S1024x120 .f32 :=
  k0_pay91 (kernelRun.sl.r_44 c a0 h0 a1 h1 a2 h2 a3 h3 a4 h4 a5 h5 a6 h6 a7 h7 a8 h8 a9 h9 x0 x1 x2 x3 x4 x5 x6 x7 x8 x9) (View.readAt (Elt Ideal) a11.view (Rect.unit ![0, 0] S6x128.size inb_S6x128_S6x128_0_0).toLoadRect (h11.unread x11)) (View.readAt (Elt Ideal) a12.view (Rect.unit ![0, 0] S128x120.size inb_S128x120_S128x120_0_0).toLoadRect (h12.unread x12)) (View.readAt (Elt Ideal) a13.view (Rect.unit ![0, 0] S1x120.size inb_S1x120_S1x120_0_0).toLoadRect (h13.unread x13)) (View.readAt (Elt Ideal) a10.view (Rect.unit ![0, 0] S128x128.size inb_S128x128_S128x128_0_0).toLoadRect (h10.unread x10))

/-- Mode 2's stored block. -/
def stored2 : FVec Ideal S1024x120 .f32 :=
  k0_pay93 (kernelRun.sl.r_51 c a12 h12 x12) (kernelRun.sl.r_52 c a13 h13 x13) (kernelRun.sl.r_54 c a0 h0 a1 h1 a2 h2 a3 h3 a4 h4 a5 h5 a6 h6 a7 h7 a8 h8 a9 h9 a10 h10 a11 h11 x0 x1 x2 x3 x4 x5 x6 x7 x8 x9 x10 x11) (FloatOps.ofBits .f32 0x00000000#32)

/-- Mode 3's stored block. -/
def stored3 : FVec Ideal S1024x120 .f32 :=
  k0_pay94 (kernelRun.sl.r_47 c a0 h0 a1 h1 a2 h2 a3 h3 a4 h4 a5 h5 a6 h6 a7 h7 a8 h8 a9 h9 x0 x1 x2 x3 x4 x5 x6 x7 x8 x9) (kernelRun.sl.r_50 c a11 h11 x11) (kernelRun.sl.r_51 c a12 h12 x12) (kernelRun.sl.r_52 c a13 h13 x13) (kernelRun.sl.r_53 c a10 h10 x10)

/-- Mode 4's stored block. -/
def stored4 : FVec Ideal S1024x120 .f32 :=
  k0_pay95 (kernelRun.sl.r_48 c a0 h0 a1 h1 a2 h2 a3 h3 a4 h4 a5 h5 a6 h6 a7 h7 a8 h8 a9 h9 x0 x1 x2 x3 x4 x5 x6 x7 x8 x9) (kernelRun.sl.r_50 c a11 h11 x11) (kernelRun.sl.r_51 c a12 h12 x12) (kernelRun.sl.r_52 c a13 h13 x13) (kernelRun.sl.r_53 c a10 h10 x10)

/-- Mode 5's stored block. -/
def stored5 : FVec Ideal S1024x120 .f32 :=
  k0_pay1 (kernelRun.sl.r_51 c a12 h12 x12) (kernelRun.sl.r_52 c a13 h13 x13) (kernelRun.sl.r_55 c a0 h0 a1 h1 a2 h2 a3 h3 a4 h4 a5 h5 a6 h6 a7 h7 a8 h8 a9 h9 a10 h10 a11 h11 x0 x1 x2 x3 x4 x5 x6 x7 x8 x9 x10 x11) (constant S1024x120 .f32 0x00000000#32)

set_option maxHeartbeats 2000000 in
/-- The six stored blocks, read at agent `b` of the grid point's block. -/
theorem stored_row
    (H0 : ∀ t : Fin 5, x0 (ix2 t b) = ((X.px t : ℝ) : EReal))
    (H1 : ∀ t : Fin 5, x1 (ix2 t b) = ((X.py t : ℝ) : EReal))
    (H2 : ∀ t : Fin 5, x2 (ix2 t b) = ((X.hd t : ℝ) : EReal))
    (H3 : ∀ (t : Fin 5) (d : Fin 128), x3 (ix3 t b d) = ((X.ae t d : ℝ) : EReal))
    (H4 : ∀ (i : Fin 7) (d : Fin 128), x4 (ix2 i d) = ((S.W1 i d : ℝ) : EReal))
    (H5 : ∀ (d : Fin 128) (r : Fin 48), x5 (ix2 d r) = ((S.KQ d r : ℝ) : EReal))
    (H6 : ∀ (d : Fin 128) (r : Fin 48), x6 (ix2 d r) = ((S.EKQ d r : ℝ) : EReal))
    (H7 : ∀ d e : Fin 128, x7 (ix2 d e) = ((S.V d e : ℝ) : EReal))
    (H8 : ∀ d e : Fin 128, x8 (ix2 d e) = ((S.EV d e : ℝ) : EReal))
    (H9 : ∀ d : Fin 128, x9 (ix2 0 d) = ((S.b2 d : ℝ) : EReal))
    (H10 : ∀ d h : Fin 128, x10 (ix2 d h) = ((S.OP d h : ℝ) : EReal))
    (H11 : ∀ (m : Fin 6) (d : Fin 128), x11 (ix2 m d) = S.cm m d)
    (H12 : ∀ (h : Fin 128) (o : Fin 120), x12 (ix2 h o) = Wp2 h o)
    (H13 : ∀ o : Fin 120, x13 (ix2 0 o) = bp2 o) :
    (∀ o : Fin 120, stored0 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 0 o)
    ∧ (∀ o : Fin 120, stored1 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 1 o)
    ∧ (∀ o : Fin 120, stored2 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 2 o)
    ∧ (∀ o : Fin 120, stored3 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 3 o)
    ∧ (∀ o : Fin 120, stored4 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 4 o)
    ∧ (∀ o : Fin 120, stored5 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 (ix2 b o) = out S X Wp2 bp2 5 o) := by
  have E0 : ∀ t : Fin 5, View.readAt (Elt Ideal) a0.view (Rect.unit ![0, 0] S5x1024.size inb_S5x1024_S5x1024_0_0).toLoadRect (h0.unread x0) (ix2 t b) = ((X.px t : ℝ) : EReal) := fun t => by
    rw [View.readAt_eq_ld, Memref.IsWhole.read_unread]
    pointwise
    exact H0 t
  have E1 : ∀ t : Fin 5, View.readAt (Elt Ideal) a1.view (Rect.unit ![0, 0] S5x1024.size inb_S5x1024_S5x1024_0_0).toLoadRect (h1.unread x1) (ix2 t b) = ((X.py t : ℝ) : EReal) := fun t => by
    rw [View.readAt_eq_ld, Memref.IsWhole.read_unread]
    pointwise
    exact H1 t
  have E2 : ∀ t : Fin 5, View.readAt (Elt Ideal) a2.view (Rect.unit ![0, 0] S5x1024.size inb_S5x1024_S5x1024_0_0).toLoadRect (h2.unread x2) (ix2 t b) = ((X.hd t : ℝ) : EReal) := fun t => by
    rw [View.readAt_eq_ld, Memref.IsWhole.read_unread]
    pointwise
    exact H2 t
  have E4 : ∀ (i : Fin 7) (d : Fin 128), View.readAt (Elt Ideal) a4.view (Rect.unit ![0, 0] S7x128.size inb_S7x128_S7x128_0_0).toLoadRect (h4.unread x4) (ix2 i d) = ((S.W1 i d : ℝ) : EReal) := fun i d => by
    rw [View.readAt_eq_ld, Memref.IsWhole.read_unread]
    pointwise
    exact H4 i d
  have E5 : ∀ (d : Fin 128) (r : Fin 48), View.readAt (Elt Ideal) a5.view (Rect.unit ![0, 0] S128x48.size inb_S128x48_S128x48_0_0).toLoadRect (h5.unread x5) (ix2 d r) = ((S.KQ d r : ℝ) : EReal) := fun d r => by
    rw [View.readAt_eq_ld, Memref.IsWhole.read_unread]
    pointwise
    exact H5 d r
  have E6 : ∀ (d : Fin 128) (r : Fin 48), View.readAt (Elt Ideal) a6.view (Rect.unit ![0, 0] S128x48.size inb_S128x48_S128x48_0_0).toLoadRect (h6.unread x6) (ix2 d r) = ((S.EKQ d r : ℝ) : EReal) := fun d r => by
    rw [View.readAt_eq_ld, Memref.IsWhole.read_unread]
    pointwise
    exact H6 d r
  have E7 : ∀ d e : Fin 128, View.readAt (Elt Ideal) a7.view (Rect.unit ![0, 0] S128x128.size inb_S128x128_S128x128_0_0).toLoadRect (h7.unread x7) (ix2 d e) = ((S.V d e : ℝ) : EReal) := fun d e => by
    rw [View.readAt_eq_ld, Memref.IsWhole.read_unread]
    pointwise
    exact H7 d e
  have E8 : ∀ d e : Fin 128, View.readAt (Elt Ideal) a8.view (Rect.unit ![0, 0] S128x128.size inb_S128x128_S128x128_0_0).toLoadRect (h8.unread x8) (ix2 d e) = ((S.EV d e : ℝ) : EReal) := fun d e => by
    rw [View.readAt_eq_ld, Memref.IsWhole.read_unread]
    pointwise
    exact H8 d e
  have E9 : ∀ d : Fin 128, View.readAt (Elt Ideal) a9.view (Rect.unit ![0, 0] S1x128.size inb_S1x128_S1x128_0_0).toLoadRect (h9.unread x9) (ix2 0 d) = ((S.b2 d : ℝ) : EReal) := fun d => by
    rw [View.readAt_eq_ld, Memref.IsWhole.read_unread]
    pointwise
    exact H9 d
  have E10 : ∀ d h : Fin 128, View.readAt (Elt Ideal) a10.view (Rect.unit ![0, 0] S128x128.size inb_S128x128_S128x128_0_0).toLoadRect (h10.unread x10) (ix2 d h) = ((S.OP d h : ℝ) : EReal) := fun d h => by
    rw [View.readAt_eq_ld, Memref.IsWhole.read_unread]
    pointwise
    exact H10 d h
  have E11 : ∀ (m : Fin 6) (d : Fin 128), View.readAt (Elt Ideal) a11.view (Rect.unit ![0, 0] S6x128.size inb_S6x128_S6x128_0_0).toLoadRect (h11.unread x11) (ix2 m d) = S.cm m d := fun m d => by
    rw [View.readAt_eq_ld, Memref.IsWhole.read_unread]
    pointwise
    exact H11 m d
  have E12 : ∀ (h : Fin 128) (o : Fin 120), View.readAt (Elt Ideal) a12.view (Rect.unit ![0, 0] S128x120.size inb_S128x120_S128x120_0_0).toLoadRect (h12.unread x12) (ix2 h o) = Wp2 h o := fun h o => by
    rw [View.readAt_eq_ld, Memref.IsWhole.read_unread]
    pointwise
    exact H12 h o
  have E13 : ∀ o : Fin 120, View.readAt (Elt Ideal) a13.view (Rect.unit ![0, 0] S1x120.size inb_S1x120_S1x120_0_0).toLoadRect (h13.unread x13) (ix2 0 o) = bp2 o := fun o => by
    rw [View.readAt_eq_ld, Memref.IsWhole.read_unread]
    pointwise
    exact H13 o
  have F0 : ∀ d : Fin 128, View.readAt (Elt Ideal) a3.view (Rect.unit (s := S5x1024x128) ![0, 0, 0] S1x1024x128.size inb_S5x1024x128_S1x1024x128_0_0_0).toLoadRect (h3.unread x3) (ix3 0 b d) = ((X.ae 0 d : ℝ) : EReal) := fun d => by
    rw [View.readAt_eq_ld, Memref.IsWhole.read_unread]
    pointwise
    exact H3 0 d
  have F1 : ∀ d : Fin 128, View.readAt (Elt Ideal) a3.view (Rect.unit (s := S5x1024x128) ![1, 0, 0] S1x1024x128.size inb_S5x1024x128_S1x1024x128_1_0_0).toLoadRect (h3.unread x3) (ix3 0 b d) = ((X.ae 1 d : ℝ) : EReal) := fun d => by
    rw [View.readAt_eq_ld, Memref.IsWhole.read_unread]
    pointwise
    exact H3 1 d
  have F2 : ∀ d : Fin 128, View.readAt (Elt Ideal) a3.view (Rect.unit (s := S5x1024x128) ![2, 0, 0] S1x1024x128.size inb_S5x1024x128_S1x1024x128_2_0_0).toLoadRect (h3.unread x3) (ix3 0 b d) = ((X.ae 2 d : ℝ) : EReal) := fun d => by
    rw [View.readAt_eq_ld, Memref.IsWhole.read_unread]
    pointwise
    exact H3 2 d
  have F3 : ∀ d : Fin 128, View.readAt (Elt Ideal) a3.view (Rect.unit (s := S5x1024x128) ![3, 0, 0] S1x1024x128.size inb_S5x1024x128_S1x1024x128_3_0_0).toLoadRect (h3.unread x3) (ix3 0 b d) = ((X.ae 3 d : ℝ) : EReal) := fun d => by
    rw [View.readAt_eq_ld, Memref.IsWhole.read_unread]
    pointwise
    exact H3 3 d
  have F4 : ∀ d : Fin 128, View.readAt (Elt Ideal) a3.view (Rect.unit (s := S5x1024x128) ![4, 0, 0] S1x1024x128.size inb_S5x1024x128_S1x1024x128_4_0_0).toLoadRect (h3.unread x3) (ix3 0 b d) = ((X.ae 4 d : ℝ) : EReal) := fun d => by
    rw [View.readAt_eq_ld, Memref.IsWhole.read_unread]
    pointwise
    exact H3 4 d
  have e0 : ∀ t : Fin 5, (kernelRun.sl.r (F := Ideal) c a0 h0 a1 h1 a2 h2 x0 x1 x2) (ix2 t b) = ((len X t : ℝ) : EReal) := fun t => pay10_row b X E0 E1 E2 t
  have e1 : ∀ t : Fin 5, (kernelRun.sl.r_1 (F := Ideal) c a0 h0 a1 h1 a2 h2 x0 x1 x2) (ix2 t b) = ((side X t / reach X t : ℝ) : EReal) := fun t => pay13_row b X E0 E1 E2 t
  have e2 : ∀ t : Fin 5, (kernelRun.sl.r_2 (F := Ideal) c a0 h0 a1 h1 a2 h2 x0 x1 x2) (ix2 t b) = ((ahead X t / reach X t : ℝ) : EReal) := fun t => pay14_row b X E0 E1 E2 t
  have e3 : ∀ t : Fin 5, (kernelRun.sl.r_3 (F := Ideal) c a2 h2 x2) (ix2 t b) = ((Real.sin (turn X t) : ℝ) : EReal) := fun t => pay16_row b X E2 t
  have e4 : ∀ t : Fin 5, (kernelRun.sl.r_4 (F := Ideal) c a2 h2 x2) (ix2 t b) = ((Real.cos (turn X t) : ℝ) : EReal) := fun t => pay17_row b X E2 t
  have e5 : (kernelRun.sl.r_5 (F := Ideal) c a0 h0 a1 h1 a2 h2 x0 x1 x2) (ix2 0 b) = ((len X 0 : ℝ) : EReal) := pay18_row b X E0 E1 E2
  have e6 : (kernelRun.sl.r_6 (F := Ideal) c a0 h0 a1 h1 a2 h2 x0 x1 x2) (ix2 0 b) = ((len X 1 : ℝ) : EReal) := pay19_row b X E0 E1 E2
  have e7_0 : ∀ d : Fin 128, (kernelRun.sl.r_7 (F := Ideal) c a0 h0 a1 h1 a2 h2 a4 h4 x0 x1 x2 x4) (ix2 ⟨b.val, by omega⟩ d) = ((edgeHid S X 0 d : ℝ) : EReal) := fun d => pay20_row0 b S X e0 e1 e2 e3 e4 e5 e6 E4 d
  have e7_1 : ∀ d : Fin 128, (kernelRun.sl.r_7 (F := Ideal) c a0 h0 a1 h1 a2 h2 a4 h4 x0 x1 x2 x4) (ix2 ⟨1024 + b.val, by omega⟩ d) = ((edgeHid S X 1 d : ℝ) : EReal) := fun d => pay20_row1 b S X e0 e1 e2 e3 e4 e5 e6 E4 d
  have e7_2 : ∀ d : Fin 128, (kernelRun.sl.r_7 (F := Ideal) c a0 h0 a1 h1 a2 h2 a4 h4 x0 x1 x2 x4) (ix2 ⟨2048 + b.val, by omega⟩ d) = ((edgeHid S X 2 d : ℝ) : EReal) := fun d => pay20_row2 b S X e0 e1 e2 e3 e4 e5 e6 E4 d
  have e7_3 : ∀ d : Fin 128, (kernelRun.sl.r_7 (F := Ideal) c a0 h0 a1 h1 a2 h2 a4 h4 x0 x1 x2 x4) (ix2 ⟨3072 + b.val, by omega⟩ d) = ((edgeHid S X 3 d : ℝ) : EReal) := fun d => pay20_row3 b S X e0 e1 e2 e3 e4 e5 e6 E4 d
  have e7_4 : ∀ d : Fin 128, (kernelRun.sl.r_7 (F := Ideal) c a0 h0 a1 h1 a2 h2 a4 h4 x0 x1 x2 x4) (ix2 ⟨4096 + b.val, by omega⟩ d) = ((edgeHid S X 4 d : ℝ) : EReal) := fun d => pay20_row4 b S X e0 e1 e2 e3 e4 e5 e6 E4 d
  have e8 : ∀ (d : Fin 128) (r : Fin 48), (kernelRun.sl.r_8 (F := Ideal) c a5 h5 x5) (ix2 d r) = ((S.KQ d r : ℝ) : EReal) := fun d r => (pay21_at _ d r).trans (E5 d r)
  have e9 : ∀ (d : Fin 128) (r : Fin 48), (kernelRun.sl.r_9 (F := Ideal) c a6 h6 x6) (ix2 d r) = ((S.EKQ d r : ℝ) : EReal) := fun d r => (pay22_at _ d r).trans (E6 d r)
  have e10 : ∀ (d e : Fin 128), (kernelRun.sl.r_10 (F := Ideal) c a7 h7 x7) (ix2 d e) = ((S.V d e : ℝ) : EReal) := fun d e => E7 d e
  have e11 : ∀ (d e : Fin 128), (kernelRun.sl.r_11 (F := Ideal) c a8 h8 x8) (ix2 d e) = ((S.EV d e : ℝ) : EReal) := fun d e => (pay23_at _ d e).trans (E8 d e)
  have e12 : ∀ d : Fin 128, (kernelRun.sl.r_12 (F := Ideal) c a9 h9 x9) (ix2 0 d) = ((S.b2 d : ℝ) : EReal) := fun d => (pay24_at _ d).trans (E9 d)
  have e13 : ∀ r : Fin 48, (kernelRun.sl.r_13 (F := Ideal) c a0 h0 a1 h1 a2 h2 a3 h3 a4 h4 a5 h5 a6 h6 x0 x1 x2 x3 x4 x5 x6) (ix2 b r) = ((score S X 0 r : ℝ) : EReal) := fun r => pay27_row b S X e7_0 e8 e9 F0 r
  have e15 : ∀ r : Fin 48, (kernelRun.sl.r_15 (F := Ideal) c a0 h0 a1 h1 a2 h2 a3 h3 a4 h4 a5 h5 a6 h6 x0 x1 x2 x3 x4 x5 x6) (ix2 b r) = ((score S X 1 r : ℝ) : EReal) := fun r => pay31_row b S X e7_1 e8 e9 F1 r
  have e18 : ∀ r : Fin 48, (kernelRun.sl.r_18 (F := Ideal) c a0 h0 a1 h1 a2 h2 a3 h3 a4 h4 a5 h5 a6 h6 x0 x1 x2 x3 x4 x5 x6) (ix2 b r) = ((score S X 2 r : ℝ) : EReal) := fun r => pay35_row b S X e7_2 e8 e9 F2 r
  have g3 : ∀ r : Fin 48, (k0_pay40 (kernelRun.sl.r_7 (F := Ideal) c a0 h0 a1 h1 a2 h2 a4 h4 x0 x1 x2 x4) (kernelRun.sl.r_8 (F := Ideal) c a5 h5 x5) (kernelRun.sl.r_9 (F := Ideal) c a6 h6 x6) (View.readAt (Elt Ideal) a3.view (Rect.unit (s := S5x1024x128) ![3, 0, 0] S1x1024x128.size inb_S5x1024x128_S1x1024x128_3_0_0).toLoadRect (h3.unread x3))) (ix2 b r) = ((score S X 3 r : ℝ) : EReal) := fun r => pay40_row b S X e7_3 e8 e9 F3 r
  have g4 : ∀ r : Fin 48, (k0_pay44 (kernelRun.sl.r_7 (F := Ideal) c a0 h0 a1 h1 a2 h2 a4 h4 x0 x1 x2 x4) (kernelRun.sl.r_8 (F := Ideal) c a5 h5 x5) (kernelRun.sl.r_9 (F := Ideal) c a6 h6 x6) (View.readAt (Elt Ideal) a3.view (Rect.unit (s := S5x1024x128) ![4, 0, 0] S1x1024x128.size inb_S5x1024x128_S1x1024x128_4_0_0).toLoadRect (h3.unread x3))) (ix2 b r) = ((score S X 4 r : ℝ) : EReal) := fun r => pay44_row b S X e7_4 e8 e9 F4 r
  have e14 : ∀ d : Fin 128, (kernelRun.sl.r_14 (F := Ideal) c a0 h0 a1 h1 a2 h2 a3 h3 a4 h4 a7 h7 a8 h8 a9 h9 x0 x1 x2 x3 x4 x7 x8 x9) (ix2 b d) = ((val S X 0 d : ℝ) : EReal) := fun d => pay28_row b S X e7_0 E7 E8 E9 F0 d
  have e16 : ∀ d : Fin 128, (kernelRun.sl.r_16 (F := Ideal) c a0 h0 a1 h1 a2 h2 a3 h3 a4 h4 a7 h7 a8 h8 a9 h9 x0 x1 x2 x3 x4 x7 x8 x9) (ix2 b d) = ((val S X 1 d : ℝ) : EReal) := fun d => pay32_row b S X e7_1 E7 E8 E9 F1 d
  have e20 : ∀ d : Fin 128, (kernelRun.sl.r_20 (F := Ideal) c a0 h0 a1 h1 a2 h2 a3 h3 a4 h4 a7 h7 a8 h8 a9 h9 x0 x1 x2 x3 x4 x7 x8 x9) (ix2 b d) = ((val S X 2 d : ℝ) : EReal) := fun d => pay37_row b S X e7_2 e10 e11 e12 F2 d
  have e21 : ∀ d : Fin 128, (kernelRun.sl.r_21 (F := Ideal) c a0 h0 a1 h1 a2 h2 a3 h3 a4 h4 a7 h7 a8 h8 a9 h9 x0 x1 x2 x3 x4 x7 x8 x9) (ix2 b d) = ((val S X 3 d : ℝ) : EReal) := fun d => pay41_row b S X e7_3 e10 e11 e12 F3 d
  have e22 : ∀ d : Fin 128, (kernelRun.sl.r_22 (F := Ideal) c a0 h0 a1 h1 a2 h2 a3 h3 a4 h4 a7 h7 a8 h8 a9 h9 x0 x1 x2 x3 x4 x7 x8 x9) (ix2 b d) = ((val S X 4 d : ℝ) : EReal) := fun d => pay45_row b S X e7_4 e10 e11 e12 F4 d
  have e23 : ∀ r : Fin 48, (kernelRun.sl.r_23 (F := Ideal) c a0 h0 a1 h1 a2 h2 a3 h3 a4 h4 a5 h5 a6 h6 x0 x1 x2 x3 x4 x5 x6) (ix2 b r) = ((ex S X 0 r : ℝ) : EReal) := fun r => pay47_row b S X e13 e15 e18 g3 g4 r
  have e24 : ∀ r : Fin 48, (kernelRun.sl.r_24 (F := Ideal) c a0 h0 a1 h1 a2 h2 a3 h3 a4 h4 a5 h5 a6 h6 x0 x1 x2 x3 x4 x5 x6) (ix2 b r) = ((ex S X 1 r : ℝ) : EReal) := fun r => pay48_row b S X e13 e15 e18 g3 g4 r
  have e25 : ∀ r : Fin 48, (kernelRun.sl.r_25 (F := Ideal) c a0 h0 a1 h1 a2 h2 a3 h3 a4 h4 a5 h5 a6 h6 x0 x1 x2 x3 x4 x5 x6) (ix2 b r) = ((ex S X 2 r : ℝ) : EReal) := fun r => pay49_row b S X e13 e15 e18 g3 g4 r
  have e26 : ∀ r : Fin 48, (kernelRun.sl.r_26 (F := Ideal) c a0 h0 a1 h1 a2 h2 a3 h3 a4 h4 a5 h5 a6 h6 x0 x1 x2 x3 x4 x5 x6) (ix2 b r) = ((ex S X 3 r : ℝ) : EReal) := fun r => pay50_row b S X e13 e15 e18 g3 g4 r
  have e27 : ∀ r : Fin 48, (kernelRun.sl.r_27 (F := Ideal) c a0 h0 a1 h1 a2 h2 a3 h3 a4 h4 a5 h5 a6 h6 x0 x1 x2 x3 x4 x5 x6) (ix2 b r) = ((ex S X 4 r : ℝ) : EReal) := fun r => pay51_row b S X e13 e15 e18 g3 g4 r
  have e28 : ∀ r : Fin 48, (kernelRun.sl.r_28 (F := Ideal) c a0 h0 a1 h1 a2 h2 a3 h3 a4 h4 a5 h5 a6 h6 x0 x1 x2 x3 x4 x5 x6) (ix2 b r) = ((den S X r : ℝ) : EReal) := fun r => pay52_row b S X e13 e15 e18 g3 g4 r
  have e29 : ∀ r : Fin 48, (kernelRun.sl.r_29 (F := Ideal) c a0 h0 a1 h1 a2 h2 a3 h3 a4 h4 a5 h5 a6 h6 x0 x1 x2 x3 x4 x5 x6) (ix2 b r) = ((Formula.inv S X r : ℝ) : EReal) := fun r => pay54_row b S X e28 r
  have e30 : ∀ (r : Fin 48) (o : Fin 768), (kernelRun.sl.r_30 (F := Ideal)) (ix2 r o) = ((sel r o : ℝ) : EReal) := fun r o => sel_at r o
  have e31 : ∀ d : Fin 128, (kernelRun.sl.r_31 (F := Ideal) c a0 h0 a1 h1 a2 h2 a3 h3 a4 h4 a5 h5 a6 h6 a7 h7 a8 h8 a9 h9 x0 x1 x2 x3 x4 x5 x6 x7 x8 x9) (ix2 b d) = ((part S X 4 0 d : ℝ) : EReal) := fun d => pay66_row b S X (h109 := e14) (h159 := e23) (h175 := e29) (hE := sel_at) d
  have e32 : ∀ d : Fin 128, (kernelRun.sl.r_32 (F := Ideal) c a0 h0 a1 h1 a2 h2 a3 h3 a4 h4 a5 h5 a6 h6 a7 h7 a8 h8 a9 h9 x0 x1 x2 x3 x4 x5 x6 x7 x8 x9) (ix2 b d) = ((part S X 5 0 d : ℝ) : EReal) := fun d => pay67_row b S X (h109 := e14) (h159 := e23) (h175 := e29) (hE := sel_at) d
  have e33 : ∀ o : Fin 768, (kernelRun.sl.r_33 (F := Ideal) c a0 h0 a1 h1 a2 h2 a3 h3 a4 h4 a5 h5 a6 h6 x0 x1 x2 x3 x4 x5 x6) (ix2 b o) = ((spread S X 1 o : ℝ) : EReal) := fun o => pay68_row b S X (hex := e24) (h175 := e29) (hE := sel_at) o
  have e34 : ∀ d : Fin 128, (kernelRun.sl.r_34 (F := Ideal) c a0 h0 a1 h1 a2 h2 a3 h3 a4 h4 a5 h5 a6 h6 a7 h7 a8 h8 a9 h9 x0 x1 x2 x3 x4 x5 x6 x7 x8 x9) (ix2 b d) = ((part S X 0 0 d + part S X 0 1 d : ℝ) : EReal) := fun d => pay69_row b S X (h109 := e14) (h120 := e16) (h159 := e23) (h161 := e24) (h175 := e29) (hE := sel_at) d
  have e35 : ∀ d : Fin 128, (kernelRun.sl.r_35 (F := Ideal) c a0 h0 a1 h1 a2 h2 a3 h3 a4 h4 a5 h5 a6 h6 a7 h7 a8 h8 a9 h9 x0 x1 x2 x3 x4 x5 x6 x7 x8 x9) (ix2 b d) = ((part S X 1 0 d + part S X 1 1 d : ℝ) : EReal) := fun d => pay70_row b S X (h109 := e14) (h120 := e16) (h159 := e23) (h161 := e24) (h175 := e29) (hE := sel_at) d
  have e36 : ∀ d : Fin 128, (kernelRun.sl.r_36 (F := Ideal) c a0 h0 a1 h1 a2 h2 a3 h3 a4 h4 a5 h5 a6 h6 a7 h7 a8 h8 a9 h9 x0 x1 x2 x3 x4 x5 x6 x7 x8 x9) (ix2 b d) = ((part S X 2 0 d + part S X 2 1 d : ℝ) : EReal) := fun d => pay71_row b S X (h109 := e14) (h120 := e16) (h159 := e23) (h161 := e24) (h175 := e29) (hE := sel_at) d
  have e37 : ∀ d : Fin 128, (kernelRun.sl.r_37 (F := Ideal) c a0 h0 a1 h1 a2 h2 a3 h3 a4 h4 a5 h5 a6 h6 a7 h7 a8 h8 a9 h9 x0 x1 x2 x3 x4 x5 x6 x7 x8 x9) (ix2 b d) = ((part S X 3 0 d + part S X 3 1 d : ℝ) : EReal) := fun d => pay72_row b S X (h109 := e14) (h120 := e16) (h159 := e23) (h161 := e24) (h175 := e29) (hE := sel_at) d
  have e38 : ∀ d : Fin 128, (kernelRun.sl.r_38 (F := Ideal) c a0 h0 a1 h1 a2 h2 a3 h3 a4 h4 a5 h5 a6 h6 a7 h7 a8 h8 a9 h9 x0 x1 x2 x3 x4 x5 x6 x7 x8 x9) (ix2 b d) = ((part S X 4 1 d : ℝ) : EReal) := fun d => pay73_row b S X (h120 := e16) (h161 := e24) (h175 := e29) (hE := sel_at) d
  have e39 : ∀ d : Fin 128, (kernelRun.sl.r_39 (F := Ideal) c a0 h0 a1 h1 a2 h2 a3 h3 a4 h4 a5 h5 a6 h6 a7 h7 a8 h8 a9 h9 x0 x1 x2 x3 x4 x5 x6 x7 x8 x9) (ix2 b d) = ((part S X 3 0 d + part S X 3 1 d + part S X 3 2 d + part S X 3 3 d : ℝ) : EReal) := fun d => pay76_row b S X (h131 := e20) (h142 := e21) (h163 := e25) (h165 := e26) (h175 := e29) (h286 := e30) (h314 := e37) d
  have e40 : ∀ d : Fin 128, (kernelRun.sl.r_40 (F := Ideal) c a0 h0 a1 h1 a2 h2 a3 h3 a4 h4 a5 h5 a6 h6 a7 h7 a8 h8 a9 h9 x0 x1 x2 x3 x4 x5 x6 x7 x8 x9) (ix2 b d) = ((part S X 4 0 d + part S X 4 1 d + part S X 4 2 d + part S X 4 3 d : ℝ) : EReal) := fun d => pay77_row b S X (h131 := e20) (h142 := e21) (h163 := e25) (h165 := e26) (h175 := e29) (h286 := e30) (h298 := e31) (h316 := e38) d
  have e41 : ∀ d : Fin 128, (kernelRun.sl.r_41 (F := Ideal) c a0 h0 a1 h1 a2 h2 a3 h3 a4 h4 a5 h5 a6 h6 a7 h7 a8 h8 a9 h9 x0 x1 x2 x3 x4 x5 x6 x7 x8 x9) (ix2 b d) = ((part S X 5 0 d + part S X 5 1 d + part S X 5 2 d + part S X 5 3 d : ℝ) : EReal) := fun d => pay78_row b S X (h131 := e20) (h142 := e21) (h163 := e25) (h165 := e26) (h175 := e29) (h286 := e30) (h120 := e16) (h300 := e32) (h302 := e33) d
  have e42 : ∀ o : Fin 768, (kernelRun.sl.r_42 (F := Ideal) c a0 h0 a1 h1 a2 h2 a3 h3 a4 h4 a5 h5 a6 h6 x0 x1 x2 x3 x4 x5 x6) (ix2 b o) = ((spread S X 4 o : ℝ) : EReal) := fun o => pay79_row b S X (hex := e27) (h175 := e29) (h286 := e30) o
  have e43 : ∀ d : Fin 128, (kernelRun.sl.r_43 (F := Ideal) c a0 h0 a1 h1 a2 h2 a3 h3 a4 h4 a5 h5 a6 h6 a7 h7 a8 h8 a9 h9 x0 x1 x2 x3 x4 x5 x6 x7 x8 x9) (ix2 b d) = ((acc S X 0 d : ℝ) : EReal) := fun d => pay80_row b S X (h131 := e20) (h142 := e21) (h163 := e25) (h165 := e26) (h175 := e29) (h286 := e30) (h153 := e22) (h167 := e27) (h305 := e34) d
  have e44 : ∀ d : Fin 128, (kernelRun.sl.r_44 (F := Ideal) c a0 h0 a1 h1 a2 h2 a3 h3 a4 h4 a5 h5 a6 h6 a7 h7 a8 h8 a9 h9 x0 x1 x2 x3 x4 x5 x6 x7 x8 x9) (ix2 b d) = ((acc S X 1 d : ℝ) : EReal) := fun d => pay81_row b S X (h131 := e20) (h142 := e21) (h163 := e25) (h165 := e26) (h175 := e29) (h286 := e30) (h153 := e22) (h167 := e27) (h308 := e35) d
  have e45 : ∀ d : Fin 128, (kernelRun.sl.r_45 (F := Ideal) c a0 h0 a1 h1 a2 h2 a3 h3 a4 h4 a5 h5 a6 h6 a7 h7 a8 h8 a9 h9 x0 x1 x2 x3 x4 x5 x6 x7 x8 x9) (ix2 b d) = ((acc S X 2 d : ℝ) : EReal) := fun d => pay82_row b S X (h131 := e20) (h142 := e21) (h163 := e25) (h165 := e26) (h175 := e29) (h286 := e30) (h153 := e22) (h167 := e27) (h311 := e36) d
  have e46 : ∀ d : Fin 128, (kernelRun.sl.r_46 (F := Ideal) c a0 h0 a1 h1 a2 h2 a3 h3 a4 h4 a5 h5 a6 h6 a7 h7 a8 h8 a9 h9 x0 x1 x2 x3 x4 x5 x6 x7 x8 x9) (ix2 b d) = ((part S X 3 4 d : ℝ) : EReal) := fun d => pay83_row b S X (h153 := e22) (h167 := e27) (h175 := e29) (h286 := e30) d
  have e47 : ∀ d : Fin 128, (kernelRun.sl.r_47 (F := Ideal) c a0 h0 a1 h1 a2 h2 a3 h3 a4 h4 a5 h5 a6 h6 a7 h7 a8 h8 a9 h9 x0 x1 x2 x3 x4 x5 x6 x7 x8 x9) (ix2 b d) = ((acc S X 3 d : ℝ) : EReal) := fun d => pay84_row b S X (h354 := e39) (h373 := e46) d
  have e48 : ∀ d : Fin 128, (kernelRun.sl.r_48 (F := Ideal) c a0 h0 a1 h1 a2 h2 a3 h3 a4 h4 a5 h5 a6 h6 a7 h7 a8 h8 a9 h9 x0 x1 x2 x3 x4 x5 x6 x7 x8 x9) (ix2 b d) = ((acc S X 4 d : ℝ) : EReal) := fun d => pay85_row b S X (h153 := e22) (h357 := e40) (h362 := e42) d
  have e49 : ∀ d : Fin 128, (kernelRun.sl.r_49 (F := Ideal) c a0 h0 a1 h1 a2 h2 a3 h3 a4 h4 a5 h5 a6 h6 a7 h7 a8 h8 a9 h9 x0 x1 x2 x3 x4 x5 x6 x7 x8 x9) (ix2 b d) = ((acc S X 5 d : ℝ) : EReal) := fun d => pay86_row b S X (h153 := e22) (h360 := e41) (h362 := e42) d
  exact ⟨fun o => out0_row b S X Wp2 bp2 e43 E11 E12 E13 E10 o,
    fun o => out1_row b S X Wp2 bp2 e44 E11 E12 E13 E10 o,
    fun o => out2_row b S X Wp2 bp2 e45 E11 E12 E13 E10 o,
    fun o => out3_row b S X Wp2 bp2 e47 E11 E12 E13 E10 o,
    fun o => out4_row b S X Wp2 bp2 e48 E11 E12 E13 E10 o,
    fun o => out5_row b S X Wp2 bp2 e49 E11 E12 E13 E10 o⟩

/-- Six column blocks written side by side, read at mode `m`'s column `o`. -/
theorem read_blocks (v : View sig .tc .vmem S1024x720 .f32) (f : v.ty.Contents (Elt Ideal)) {w0 w1 w2 w3 w4 w5 : FVec Ideal S1024x120 .f32}
    {G : Fin 6 → Fin 120 → EReal} (g0 : ∀ o, w0 (ix2 b o) = G 0 o) (g1 : ∀ o, w1 (ix2 b o) = G 1 o) (g2 : ∀ o, w2 (ix2 b o) = G 2 o)
    (g3 : ∀ o, w3 (ix2 b o) = G 3 o) (g4 : ∀ o, w4 (ix2 b o) = G 4 o) (g5 : ∀ o, w5 (ix2 b o) = G 5 o) (m : Fin 6) (o : Fin 120) :
    View.read (Elt Ideal) v (v.writes (Elt Ideal) f
      [⟨Rect.unit (s := S1024x720) ![0, 600] S1024x120.size inb_S1024x720_S1024x120_0_600, w5⟩,
       ⟨Rect.unit (s := S1024x720) ![0, 480] S1024x120.size inb_S1024x720_S1024x120_0_480, w4⟩,
       ⟨Rect.unit (s := S1024x720) ![0, 360] S1024x120.size inb_S1024x720_S1024x120_0_360, w3⟩,
       ⟨Rect.unit (s := S1024x720) ![0, 240] S1024x120.size inb_S1024x720_S1024x120_0_240, w2⟩,
       ⟨Rect.unit (s := S1024x720) ![0, 120] S1024x120.size inb_S1024x720_S1024x120_0_120, w1⟩,
       ⟨Rect.unit (s := S1024x720) ![0, 0] S1024x120.size inb_S1024x720_S1024x120_0_0, w0⟩]) (ix2 b ⟨120 * m.val + o.val, by omega⟩) = G m o := by
  have hb := o.isLt
  fin_cases m
  · rw [View.read_writes_cons_miss_of_axis (a := 1) (o := 600) (n := 120) (ho := rfl) (hst := rfl) (hn := rfl) (h := .inl (by show 120 * 0 + o.val < 600; omega))]
    rw [View.read_writes_cons_miss_of_axis (a := 1) (o := 480) (n := 120) (ho := rfl) (hst := rfl) (hn := rfl) (h := .inl (by show 120 * 0 + o.val < 480; omega))]
    rw [View.read_writes_cons_miss_of_axis (a := 1) (o := 360) (n := 120) (ho := rfl) (hst := rfl) (hn := rfl) (h := .inl (by show 120 * 0 + o.val < 360; omega))]
    rw [View.read_writes_cons_miss_of_axis (a := 1) (o := 240) (n := 120) (ho := rfl) (hst := rfl) (hn := rfl) (h := .inl (by show 120 * 0 + o.val < 240; omega))]
    rw [View.read_writes_cons_miss_of_axis (a := 1) (o := 120) (n := 120) (ho := rfl) (hst := rfl) (hn := rfl) (h := .inl (by show 120 * 0 + o.val < 120; omega))]
    rw [View.read_writes_cons_hit_of_coords (x := ix2 b o) (hx := by
      intro a
      match a with
      | 0 => show b.val = 0 + 1 * b.val; omega
      | 1 => show 120 * 0 + o.val = 0 + 1 * o.val; omega)]
    exact g0 o
  · rw [View.read_writes_cons_miss_of_axis (a := 1) (o := 600) (n := 120) (ho := rfl) (hst := rfl) (hn := rfl) (h := .inl (by show 120 * 1 + o.val < 600; omega))]
    rw [View.read_writes_cons_miss_of_axis (a := 1) (o := 480) (n := 120) (ho := rfl) (hst := rfl) (hn := rfl) (h := .inl (by show 120 * 1 + o.val < 480; omega))]
    rw [View.read_writes_cons_miss_of_axis (a := 1) (o := 360) (n := 120) (ho := rfl) (hst := rfl) (hn := rfl) (h := .inl (by show 120 * 1 + o.val < 360; omega))]
    rw [View.read_writes_cons_miss_of_axis (a := 1) (o := 240) (n := 120) (ho := rfl) (hst := rfl) (hn := rfl) (h := .inl (by show 120 * 1 + o.val < 240; omega))]
    rw [View.read_writes_cons_hit_of_coords (x := ix2 b o) (hx := by
      intro a
      match a with
      | 0 => show b.val = 0 + 1 * b.val; omega
      | 1 => show 120 * 1 + o.val = 120 + 1 * o.val; omega)]
    exact g1 o
  · rw [View.read_writes_cons_miss_of_axis (a := 1) (o := 600) (n := 120) (ho := rfl) (hst := rfl) (hn := rfl) (h := .inl (by show 120 * 2 + o.val < 600; omega))]
    rw [View.read_writes_cons_miss_of_axis (a := 1) (o := 480) (n := 120) (ho := rfl) (hst := rfl) (hn := rfl) (h := .inl (by show 120 * 2 + o.val < 480; omega))]
    rw [View.read_writes_cons_miss_of_axis (a := 1) (o := 360) (n := 120) (ho := rfl) (hst := rfl) (hn := rfl) (h := .inl (by show 120 * 2 + o.val < 360; omega))]
    rw [View.read_writes_cons_hit_of_coords (x := ix2 b o) (hx := by
      intro a
      match a with
      | 0 => show b.val = 0 + 1 * b.val; omega
      | 1 => show 120 * 2 + o.val = 240 + 1 * o.val; omega)]
    exact g2 o
  · rw [View.read_writes_cons_miss_of_axis (a := 1) (o := 600) (n := 120) (ho := rfl) (hst := rfl) (hn := rfl) (h := .inl (by show 120 * 3 + o.val < 600; omega))]
    rw [View.read_writes_cons_miss_of_axis (a := 1) (o := 480) (n := 120) (ho := rfl) (hst := rfl) (hn := rfl) (h := .inl (by show 120 * 3 + o.val < 480; omega))]
    rw [View.read_writes_cons_hit_of_coords (x := ix2 b o) (hx := by
      intro a
      match a with
      | 0 => show b.val = 0 + 1 * b.val; omega
      | 1 => show 120 * 3 + o.val = 360 + 1 * o.val; omega)]
    exact g3 o
  · rw [View.read_writes_cons_miss_of_axis (a := 1) (o := 600) (n := 120) (ho := rfl) (hst := rfl) (hn := rfl) (h := .inl (by show 120 * 4 + o.val < 600; omega))]
    rw [View.read_writes_cons_hit_of_coords (x := ix2 b o) (hx := by
      intro a
      match a with
      | 0 => show b.val = 0 + 1 * b.val; omega
      | 1 => show 120 * 4 + o.val = 480 + 1 * o.val; omega)]
    exact g4 o
  · rw [View.read_writes_cons_hit_of_coords (x := ix2 b o) (hx := by
      intro a
      match a with
      | 0 => show b.val = 0 + 1 * b.val; omega
      | 1 => show 120 * 5 + o.val = 600 + 1 * o.val; omega)]
    exact g5 o

/-- One grid point, read at agent `b` of its block. -/
theorem block_row
    (H0 : ∀ t : Fin 5, x0 (ix2 t b) = ((X.px t : ℝ) : EReal))
    (H1 : ∀ t : Fin 5, x1 (ix2 t b) = ((X.py t : ℝ) : EReal))
    (H2 : ∀ t : Fin 5, x2 (ix2 t b) = ((X.hd t : ℝ) : EReal))
    (H3 : ∀ (t : Fin 5) (d : Fin 128), x3 (ix3 t b d) = ((X.ae t d : ℝ) : EReal))
    (H4 : ∀ (i : Fin 7) (d : Fin 128), x4 (ix2 i d) = ((S.W1 i d : ℝ) : EReal))
    (H5 : ∀ (d : Fin 128) (r : Fin 48), x5 (ix2 d r) = ((S.KQ d r : ℝ) : EReal))
    (H6 : ∀ (d : Fin 128) (r : Fin 48), x6 (ix2 d r) = ((S.EKQ d r : ℝ) : EReal))
    (H7 : ∀ d e : Fin 128, x7 (ix2 d e) = ((S.V d e : ℝ) : EReal))
    (H8 : ∀ d e : Fin 128, x8 (ix2 d e) = ((S.EV d e : ℝ) : EReal))
    (H9 : ∀ d : Fin 128, x9 (ix2 0 d) = ((S.b2 d : ℝ) : EReal))
    (H10 : ∀ d h : Fin 128, x10 (ix2 d h) = ((S.OP d h : ℝ) : EReal))
    (H11 : ∀ (m : Fin 6) (d : Fin 128), x11 (ix2 m d) = S.cm m d)
    (H12 : ∀ (h : Fin 128) (o : Fin 120), x12 (ix2 h o) = Wp2 h o)
    (H13 : ∀ o : Fin 120, x13 (ix2 0 o) = bp2 o)
    (f : a14.view.ty.Contents (Elt Ideal)) (m : Fin 6) (o : Fin 120) :
    View.read (Elt Ideal) a14.view (a14.view.writes (Elt Ideal) f (kernelRun (F := Ideal) c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 x12 x13).1) (ix2 b ⟨120 * m.val + o.val, by omega⟩)
      = out S X Wp2 bp2 m o := by
  obtain ⟨g0, g1, g2, g3, g4, g5⟩ := stored_row b S X Wp2 bp2 c a0 h0 a1 h1 a2 h2 a3 h3 a4 h4 a5 h5 a6 h6 a7 h7 a8 h8 a9 h9 a10 h10 a11 h11 a12 h12 a13 h13 x0 x1 x2 x3 x4 x5 x6 x7 x8 x9 x10 x11 x12 x13 H0 H1 H2 H3 H4 H5 H6 H7 H8 H9 H10 H11 H12 H13
  exact read_blocks b a14.view f g0 g1 g2 g3 g4 g5 m o

end Point

end Cert.KernelIdeal.Row

end
-- ==== Proof.Inputs.lean ====
/-
  The inputs as real numbers: what it means that the arrays hold the steps `A` and the weights `P`.
-/
module

public import proofs.«01_k».proof.Proof.Formula
public import Idealize.ShloMosaic.Lib.Pointwise

@[expose] public section

noncomputable section

namespace Cert.Formula

open Idealize.ShloMosaic Idealize.ShloMosaic.TcCoe

/-- The arrays hold the real steps `A` (the last five of fifty) and the real weights `P`. -/
structure Holds (a0 : FVec Ideal ⟨3, ![10000, 50, 2]⟩ .f32)
    (a1 : FVec Ideal ⟨2, ![10000, 50]⟩ .f32)
    (a2 : FVec Ideal ⟨3, ![10000, 50, 128]⟩ .f32)
    (a3 : FVec Ideal ⟨2, ![6, 128]⟩ .f32)
    (a4 : FVec Ideal ⟨2, ![6, 128]⟩ .f32)
    (a5 : FVec Ideal ⟨1, ![128]⟩ .f32)
    (a6 : FVec Ideal ⟨2, ![128, 128]⟩ .f32)
    (a7 : FVec Ideal ⟨1, ![128]⟩ .f32)
    (a8 : FVec Ideal ⟨2, ![128, 128]⟩ .f32)
    (a9 : FVec Ideal ⟨1, ![128]⟩ .f32)
    (a10 : FVec Ideal ⟨2, ![128, 128]⟩ .f32)
    (a11 : FVec Ideal ⟨1, ![128]⟩ .f32)
    (a12 : FVec Ideal ⟨2, ![128, 128]⟩ .f32)
    (a13 : FVec Ideal ⟨1, ![128]⟩ .f32)
    (a14 : FVec Ideal ⟨2, ![128, 128]⟩ .f32)
    (a15 : FVec Ideal ⟨1, ![128]⟩ .f32)
    (a16 : FVec Ideal ⟨2, ![128, 128]⟩ .f32)
    (a17 : FVec Ideal ⟨1, ![128]⟩ .f32)
    (A : Fin 10000 → Steps) (P : Weights) : Prop where
  px : ∀ (n : Fin 10000) (t : Fin 5), a0 (ix3 n ⟨45 + t.val, by omega⟩ 0) = (((A n).px t : ℝ) : EReal)
  py : ∀ (n : Fin 10000) (t : Fin 5), a0 (ix3 n ⟨45 + t.val, by omega⟩ 1) = (((A n).py t : ℝ) : EReal)
  hd : ∀ (n : Fin 10000) (t : Fin 5), a1 (ix2 n ⟨45 + t.val, by omega⟩) = (((A n).hd t : ℝ) : EReal)
  ae : ∀ (n : Fin 10000) (t : Fin 5) (d : Fin 128), a2 (ix3 n ⟨45 + t.val, by omega⟩ d) = (((A n).ae t d : ℝ) : EReal)
  mode : ∀ (i : Fin 6) (d : Fin 128), a3 (ix2 i d) = ((P.mode i d : ℝ) : EReal)
  We1 : ∀ (i : Fin 6) (d : Fin 128), a4 (ix2 i d) = ((P.We1 i d : ℝ) : EReal)
  be1 : ∀ d : Fin 128, a5 (ix1 d) = ((P.be1 d : ℝ) : EReal)
  We2 : ∀ d e : Fin 128, a6 (ix2 d e) = ((P.We2 d e : ℝ) : EReal)
  be2 : ∀ d : Fin 128, a7 (ix1 d) = ((P.be2 d : ℝ) : EReal)
  Wq : ∀ d e : Fin 128, a8 (ix2 d e) = ((P.Wq d e : ℝ) : EReal)
  bq : ∀ d : Fin 128, a9 (ix1 d) = ((P.bq d : ℝ) : EReal)
  Wk : ∀ d e : Fin 128, a10 (ix2 d e) = ((P.Wk d e : ℝ) : EReal)
  bk : ∀ d : Fin 128, a11 (ix1 d) = ((P.bk d : ℝ) : EReal)
  Wv : ∀ d e : Fin 128, a12 (ix2 d e) = ((P.Wv d e : ℝ) : EReal)
  bv : ∀ d : Fin 128, a13 (ix1 d) = ((P.bv d : ℝ) : EReal)
  Wo : ∀ d e : Fin 128, a14 (ix2 d e) = ((P.Wo d e : ℝ) : EReal)
  bo : ∀ d : Fin 128, a15 (ix1 d) = P.bo d
  Wp1 : ∀ d e : Fin 128, a16 (ix2 d e) = ((P.Wp1 d e : ℝ) : EReal)
  bp1 : ∀ d : Fin 128, a17 (ix1 d) = P.bp1 d

end Cert.Formula

end
-- ==== Proof.KernelStage.lean ====
/-
  What the kernel's host operations hand to its grid: products of the weights, and the last five steps transposed.
-/
module

public import proofs.«01_k».proof.Proof.Gen.KernelIdeal.Frame
public import proofs.«01_k».proof.Proof.Inputs
public import Idealize.ShloMosaic.Lib.Claim

@[expose] public section

set_option maxRecDepth 16384

noncomputable section

namespace Cert.KernelIdeal.Stage

open Cert.KernelIdeal Cert.KernelIdeal.Gen Cert.Finite Cert.Formula
open Idealize.ShloMosaic Idealize.ShloMosaic.TcCoe

/-- The gather of columns, read at an index. -/
theorem gather_at (x : FVec Ideal S128x6 .f32) (idx : IVec S48x1 32) (e : Fin 128) (r : Fin 48) :
    Host.gather gather_S128x6_S48x1_S128x48_0_1_n_n_1_1_1281 x idx (ix2 e r)
      = x (ix2 e ⟨min (idx (ix2 r 0)).toInt.toNat 5, by omega⟩) := by
  unfold Host.gather
  congr 1
  funext a
  refine Fin.ext ?_
  show (gather_S128x6_S48x1_S128x48_0_1_n_n_1_1_1281).start (ix2 e r) idx a + (gather_S128x6_S48x1_S128x48_0_1_n_n_1_1_1281).batchCoord (ix2 e r) a
    + (gather_S128x6_S48x1_S128x48_0_1_n_n_1_1_1281).offCoord (ix2 e r) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + 0 + e.val = e.val
    omega
  · unfold GatherDims.start GatherDims.offCoord
    rw [dif_pos (by decide), dif_neg (by decide)]
    have hsi : (gather_S128x6_S48x1_S128x48_0_1_n_n_1_1_1281).siIdx (ix2 e r) ⟨List.idxOf (1 : Fin 2) (gather_S128x6_S48x1_S128x48_0_1_n_n_1_1_1281).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl

/-- The row's mode. -/
theorem lit1_at (r : Fin 48) : (lit1 (S48.rowMajor (ix1 r))).toInt.toNat = r.val / 8 := by
  revert r
  decide +kernel

/-- The row's mode as an index. -/
theorem rowMode_at (r : Fin 48) (hp : min (lit1 (S48.rowMajor (ix1 r))).toInt.toNat 5 < 6) :
    (⟨min (lit1 (S48.rowMajor (ix1 r))).toInt.toNat 5, hp⟩ : Fin 6) = ⟨r.val / 8, by omega⟩ := by
  refine Fin.ext ?_
  show min _ 5 = r.val / 8
  rw [lit1_at]
  omega

/-- The table of heads. -/
theorem lit0_at (e : Fin 128) (r : Fin 48) :
    lit0 (S128x48.rowMajor (ix2 e r)) = if e.val / 16 = r.val % 8 then 0x3F800000#32 else 0x00000000#32 := by
  revert e r
  decide +kernel

/-- The table of heads, over the reals. -/
theorem head_at (e : Fin 128) (r : Fin 48) :
    Ideal.ofBits .f32 (lit0 (S128x48.rowMajor (ix2 e r))) = ((head e r : ℝ) : EReal) := by
  rw [lit0_at, head]
  split
  · rw [bits_one]
  · rw [bits_zero]

variable (m : (ℓ : Loc nD τ sig) → Buf (Elt Ideal) ℓ) (c : Dev nD) {A : Fin 10000 → Steps} {P : Weights}
  (h : Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) A P)

set_option maxHeartbeats 1600000

include h

/-- The first coordinates of the last five steps, transposed. -/
theorem px_at (t : Fin 5) (n : Fin 10000) : @Eq EReal (V m c main_v2 (ix2 t n)) (((A n).px t : ℝ) : EReal) := by
  simp only [V, V0, hostOps0, List.flatten_cons, List.flatten_nil, List.append_nil, List.cons_append, List.nil_append]
  entry_read
  pointwise
  exact h.px n t

/-- The second coordinates of the last five steps, transposed. -/
theorem py_at (t : Fin 5) (n : Fin 10000) : @Eq EReal (V m c main_v5 (ix2 t n)) (((A n).py t : ℝ) : EReal) := by
  simp only [V, V0, hostOps0, List.flatten_cons, List.flatten_nil, List.append_nil, List.cons_append, List.nil_append]
  entry_read
  pointwise
  exact h.py n t

/-- The headings of the last five steps, transposed. -/
theorem hd_at (t : Fin 5) (n : Fin 10000) : @Eq EReal (V m c main_v7 (ix2 t n)) (((A n).hd t : ℝ) : EReal) := by
  simp only [V, V0, hostOps0, List.flatten_cons, List.flatten_nil, List.append_nil, List.cons_append, List.nil_append]
  entry_read
  pointwise
  exact h.hd n t

/-- The embeddings of the last five steps, transposed. -/
theorem ae_at (t : Fin 5) (n : Fin 10000) (d : Fin 128) : @Eq EReal (V m c main_v9 (ix3 t n d)) (((A n).ae t d : ℝ) : EReal) := by
  simp only [V, V0, hostOps0, List.flatten_cons, List.flatten_nil, List.append_nil, List.cons_append, List.nil_append]
  entry_read
  pointwise
  exact h.ae n t d

/-- The edge features' first layer, its bias a seventh row. -/
theorem W1_at (i : Fin 7) (d : Fin 128) : @Eq EReal (V m c main_v11 (ix2 i d)) (((staged P).W1 i d : ℝ) : EReal) := by
  simp only [V, V0, hostOps0, List.flatten_cons, List.flatten_nil, List.append_nil, List.cons_append, List.nil_append]
  entry_read
  pointwise
  show _ = (((if h : i.val < 6 then P.We1 ⟨i.val, h⟩ d else P.be1 d : ℝ)) : EReal)
  split
  · exact h.We1 _ d
  · exact h.be1 d

/-- The score weights. -/
theorem KQ_at (d : Fin 128) (r : Fin 48) : @Eq EReal (V m c main_v25 (ix2 d r)) (((staged P).KQ d r : ℝ) : EReal) := by
  simp only [V, V0, hostOps0, List.flatten_cons, List.flatten_nil, List.append_nil, List.cons_append, List.nil_append]
  entry_read
  pointwise
  simp (config := { index := false }) only [gather_at, head_at]
  pointwise
  simp (config := { index := false }) only [rowMode_at]
  simp only [h.mode, h.Wq, h.bq, h.Wk, h.We2, bits_quarter, sum_coe, ← EReal.coe_mul, ← EReal.coe_add]
  rfl

/-- The edge score weights. -/
theorem EKQ_at (d : Fin 128) (r : Fin 48) : @Eq EReal (V m c main_v26 (ix2 d r)) (((staged P).EKQ d r : ℝ) : EReal) := by
  simp only [V, V0, hostOps0, List.flatten_cons, List.flatten_nil, List.append_nil, List.cons_append, List.nil_append]
  entry_read
  pointwise
  simp (config := { index := false }) only [gather_at, head_at]
  pointwise
  simp (config := { index := false }) only [rowMode_at]
  simp only [h.mode, h.Wq, h.bq, h.Wk, h.We2, bits_quarter, sum_coe, ← EReal.coe_mul, ← EReal.coe_add]
  rfl

/-- The value weights. -/
theorem V_at (d e : Fin 128) : @Eq EReal (V m c main_arg12 (ix2 d e)) (((staged P).V d e : ℝ) : EReal) := by
  rw [V_main_arg12]
  exact h.Wv d e

/-- The edge value weights. -/
theorem EV_at (d e : Fin 128) : @Eq EReal (V m c main_v27 (ix2 d e)) (((staged P).EV d e : ℝ) : EReal) := by
  simp only [V, V0, hostOps0, List.flatten_cons, List.flatten_nil, List.append_nil, List.cons_append, List.nil_append]
  entry_read
  pointwise
  simp only [h.We2, h.Wv, sum_coe, ← EReal.coe_mul, ← EReal.coe_add]
  rfl

/-- The value bias. -/
theorem b2_at (d : Fin 128) : @Eq EReal (V m c main_v30 (ix2 0 d)) (((staged P).b2 d : ℝ) : EReal) := by
  simp only [V, V0, hostOps0, List.flatten_cons, List.flatten_nil, List.append_nil, List.cons_append, List.nil_append]
  entry_read
  pointwise
  simp only [h.be2, h.Wv, h.bv, sum_coe, ← EReal.coe_mul, ← EReal.coe_add]
  rfl

/-- The output weights. -/
theorem OP_at (d e : Fin 128) : @Eq EReal (V m c main_v31 (ix2 d e)) (((staged P).OP d e : ℝ) : EReal) := by
  simp only [V, V0, hostOps0, List.flatten_cons, List.flatten_nil, List.append_nil, List.cons_append, List.nil_append]
  entry_read
  pointwise
  simp only [h.Wo, h.Wp1, sum_coe, ← EReal.coe_mul, ← EReal.coe_add]
  rfl

/-- The constant part of the proposal's hidden layer. -/
theorem cm_at (i : Fin 6) (d : Fin 128) : @Eq EReal (V m c main_v37 (ix2 i d)) ((staged P).cm i d) := by
  simp only [V, V0, hostOps0, List.flatten_cons, List.flatten_nil, List.append_nil, List.cons_append, List.nil_append]
  entry_read
  pointwise
  simp only [h.mode, h.Wp1, h.bo, h.bp1, sum_coe, ← EReal.coe_mul, ← EReal.coe_add]
  rfl

omit h in
/-- The last layer's bias as a row. -/
theorem bp2_at (o : Fin 120) : @Eq EReal (V m c main_v38 (ix2 0 o)) (m ((c : Thread nD τ).loc main_arg19) (ix1 o)) := by
  simp only [V, V0, hostOps0, List.flatten_cons, List.flatten_nil, List.append_nil, List.cons_append, List.nil_append]
  entry_read
  pointwise

end Cert.KernelIdeal.Stage
-- ==== Proof.KernelBlocks.lean ====
/-
  What the kernel's output array ends holding, block by block: the row formula `Formula.out` of the arguments. The first four
  inputs' and the output's last block overhang their arrays; only the rows inside the arrays are stated.
-/
module

public import proofs.«01_k».proof.Proof.KernelOut
public import proofs.«01_k».proof.Proof.KernelStage
public import proofs.«01_k».proof.Proof.Gen.KernelIdeal.Frame
public import Idealize.ShloMosaic.Lib.Pipeline.ValueKit

@[expose] public section

noncomputable section

namespace Cert.KernelIdeal.Exact

open Cert.KernelIdeal Cert.KernelIdeal.Gen Cert.Formula
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks at coordinates -/

/-- How much of window 0's block lies inside its array. -/
theorem xsize_0 : ∀ (t : Fin cfg0.N) (a : Fin 2), win0_0.xsize (grid0.coords t) a = ![5, if t.val = 9 then 784 else 1024] a := by
  decide +kernel

/-- Which block of its array window 0 shows. -/
theorem index_0 : ∀ (t : Fin cfg0.N) (a : Fin 2), win0_0.index t a = ![0, t.val] a := by
  decide +kernel

/-- How much of window 1's block lies inside its array. -/
theorem xsize_1 : ∀ (t : Fin cfg0.N) (a : Fin 2), win0_1.xsize (grid0.coords t) a = ![5, if t.val = 9 then 784 else 1024] a := by
  decide +kernel

/-- Which block of its array window 1 shows. -/
theorem index_1 : ∀ (t : Fin cfg0.N) (a : Fin 2), win0_1.index t a = ![0, t.val] a := by
  decide +kernel

/-- How much of window 2's block lies inside its array. -/
theorem xsize_2 : ∀ (t : Fin cfg0.N) (a : Fin 2), win0_2.xsize (grid0.coords t) a = ![5, if t.val = 9 then 784 else 1024] a := by
  decide +kernel

/-- Which block of its array window 2 shows. -/
theorem index_2 : ∀ (t : Fin cfg0.N) (a : Fin 2), win0_2.index t a = ![0, t.val] a := by
  decide +kernel

/-- How much of window 3's block lies inside its array. -/
theorem xsize_3 : ∀ (t : Fin cfg0.N) (a : Fin 3), win0_3.xsize (grid0.coords t) a = ![5, if t.val = 9 then 784 else 1024, 128] a := by
  decide +kernel

/-- Which block of its array window 3 shows. -/
theorem index_3 : ∀ (t : Fin cfg0.N) (a : Fin 3), win0_3.index t a = ![0, t.val, 0] a := by
  decide +kernel

/-- How much of window 14's block lies inside its array. -/
theorem xsize_14 : ∀ (t : Fin cfg0.N) (a : Fin 2), win0_14.xsize (grid0.coords t) a = ![if t.val = 9 then 784 else 1024, 720] a := by
  decide +kernel

/-- Which block of its array window 14 shows. -/
theorem index_14 : ∀ (t : Fin cfg0.N) (a : Fin 2), win0_14.index t a = ![t.val, 0] a := by
  decide +kernel

/-- A row of window 0's buffer that lies inside the array is the array's row. -/
theorem fill_0 (c : Dev nD) (t : Fin cfg0.N) (d : S5x1024.Idx → EReal) (s : Fin 5) (b : Fin 1024) (hb : 1024 * t.val + b.val < 10000) :
    win0_0.fill (grid0.coords t) d (iblk m c 0 t) (ix2 s b) = V m c main_v2 (ix2 s ⟨1024 * t.val + b.val, hb⟩) := by
  have hm : win0_0.moved (grid0.coords t) (ix2 s b) = true := by
    refine (win0_0.moved_iff _ _).mpr fun a => ?_
    rw [xsize_0 t a]
    fin_cases a
    · exact s.isLt
    · show b.val < if t.val = 9 then 784 else 1024
      split <;> omega
  unfold Window.fill
  rw [dif_pos hm]
  unfold iblk
  rw [View.read_apply]
  refine congrArg (V m c main_v2) (funext fun a => Fin.ext ?_)
  fin_cases a
  · blk_simp
    have := index_0 t 0
    change win0_0.index t 0 * 5 + s.val = s.val
    rw [this]
    show 0 * 5 + s.val = s.val
    omega
  · blk_simp
    have := index_0 t 1
    change win0_0.index t 1 * 1024 + b.val = 1024 * t.val + b.val
    rw [this]
    show t.val * 1024 + b.val = 1024 * t.val + b.val
    omega

/-- A row of window 1's buffer that lies inside the array is the array's row. -/
theorem fill_1 (c : Dev nD) (t : Fin cfg0.N) (d : S5x1024.Idx → EReal) (s : Fin 5) (b : Fin 1024) (hb : 1024 * t.val + b.val < 10000) :
    win0_1.fill (grid0.coords t) d (iblk m c 1 t) (ix2 s b) = V m c main_v5 (ix2 s ⟨1024 * t.val + b.val, hb⟩) := by
  have hm : win0_1.moved (grid0.coords t) (ix2 s b) = true := by
    refine (win0_1.moved_iff _ _).mpr fun a => ?_
    rw [xsize_1 t a]
    fin_cases a
    · exact s.isLt
    · show b.val < if t.val = 9 then 784 else 1024
      split <;> omega
  unfold Window.fill
  rw [dif_pos hm]
  unfold iblk
  rw [View.read_apply]
  refine congrArg (V m c main_v5) (funext fun a => Fin.ext ?_)
  fin_cases a
  · blk_simp
    have := index_1 t 0
    change win0_1.index t 0 * 5 + s.val = s.val
    rw [this]
    show 0 * 5 + s.val = s.val
    omega
  · blk_simp
    have := index_1 t 1
    change win0_1.index t 1 * 1024 + b.val = 1024 * t.val + b.val
    rw [this]
    show t.val * 1024 + b.val = 1024 * t.val + b.val
    omega

/-- A row of window 2's buffer that lies inside the array is the array's row. -/
theorem fill_2 (c : Dev nD) (t : Fin cfg0.N) (d : S5x1024.Idx → EReal) (s : Fin 5) (b : Fin 1024) (hb : 1024 * t.val + b.val < 10000) :
    win0_2.fill (grid0.coords t) d (iblk m c 2 t) (ix2 s b) = V m c main_v7 (ix2 s ⟨1024 * t.val + b.val, hb⟩) := by
  have hm : win0_2.moved (grid0.coords t) (ix2 s b) = true := by
    refine (win0_2.moved_iff _ _).mpr fun a => ?_
    rw [xsize_2 t a]
    fin_cases a
    · exact s.isLt
    · show b.val < if t.val = 9 then 784 else 1024
      split <;> omega
  unfold Window.fill
  rw [dif_pos hm]
  unfold iblk
  rw [View.read_apply]
  refine congrArg (V m c main_v7) (funext fun a => Fin.ext ?_)
  fin_cases a
  · blk_simp
    have := index_2 t 0
    change win0_2.index t 0 * 5 + s.val = s.val
    rw [this]
    show 0 * 5 + s.val = s.val
    omega
  · blk_simp
    have := index_2 t 1
    change win0_2.index t 1 * 1024 + b.val = 1024 * t.val + b.val
    rw [this]
    show t.val * 1024 + b.val = 1024 * t.val + b.val
    omega

/-- A row of window 3's buffer that lies inside the array is the array's row. -/
theorem fill_3 (c : Dev nD) (t : Fin cfg0.N) (d : S5x1024x128.Idx → EReal) (s : Fin 5) (b : Fin 1024) (e : Fin 128)
    (hb : 1024 * t.val + b.val < 10000) :
    win0_3.fill (grid0.coords t) d (iblk m c 3 t) (ix3 s b e) = V m c main_v9 (ix3 s ⟨1024 * t.val + b.val, hb⟩ e) := by
  have hm : win0_3.moved (grid0.coords t) (ix3 s b e) = true := by
    refine (win0_3.moved_iff _ _).mpr fun a => ?_
    rw [xsize_3 t a]
    fin_cases a
    · exact s.isLt
    · show b.val < if t.val = 9 then 784 else 1024
      split <;> omega
    · exact e.isLt
  unfold Window.fill
  rw [dif_pos hm]
  unfold iblk
  rw [View.read_apply]
  refine congrArg (V m c main_v9) (funext fun a => Fin.ext ?_)
  fin_cases a
  · blk_simp
    have := index_3 t 0
    change win0_3.index t 0 * 5 + s.val = s.val
    rw [this]
    show 0 * 5 + s.val = s.val
    omega
  · blk_simp
    have := index_3 t 1
    change win0_3.index t 1 * 1024 + b.val = 1024 * t.val + b.val
    rw [this]
    show t.val * 1024 + b.val = 1024 * t.val + b.val
    omega
  · blk_simp
    have := index_3 t 2
    change win0_3.index t 2 * 128 + e.val = e.val
    rw [this]
    show 0 * 128 + e.val = e.val
    omega

/-- Window 4 always shows the one block that is its array. -/
theorem index_4 : ∀ (t : Fin cfg0.N) (a : Fin 2), win0_4.index t a = 0 := by
  decide +kernel

/-- Window 4's block is its whole array. -/
theorem whole_4 (c : Dev nD) (t : Fin cfg0.N) (d : Fin 7) (r : Fin 128) :
    iblk m c 4 t (ix2 d r) = V m c main_v11 (ix2 d r) := by
  unfold iblk
  rw [View.read_apply]
  refine congrArg (V m c main_v11) (funext fun a => Fin.ext ?_)
  fin_cases a
  · blk_simp
    have := index_4 t 0
    change win0_4.index t 0 * 7 + d.val = d.val
    rw [this]
    omega
  · blk_simp
    have := index_4 t 1
    change win0_4.index t 1 * 128 + r.val = r.val
    rw [this]
    omega

/-- Window 5 always shows the one block that is its array. -/
theorem index_5 : ∀ (t : Fin cfg0.N) (a : Fin 2), win0_5.index t a = 0 := by
  decide +kernel

/-- Window 5's block is its whole array. -/
theorem whole_5 (c : Dev nD) (t : Fin cfg0.N) (d : Fin 128) (r : Fin 48) :
    iblk m c 5 t (ix2 d r) = V m c main_v25 (ix2 d r) := by
  unfold iblk
  rw [View.read_apply]
  refine congrArg (V m c main_v25) (funext fun a => Fin.ext ?_)
  fin_cases a
  · blk_simp
    have := index_5 t 0
    change win0_5.index t 0 * 128 + d.val = d.val
    rw [this]
    omega
  · blk_simp
    have := index_5 t 1
    change win0_5.index t 1 * 48 + r.val = r.val
    rw [this]
    omega

/-- Window 6 always shows the one block that is its array. -/
theorem index_6 : ∀ (t : Fin cfg0.N) (a : Fin 2), win0_6.index t a = 0 := by
  decide +kernel

/-- Window 6's block is its whole array. -/
theorem whole_6 (c : Dev nD) (t : Fin cfg0.N) (d : Fin 128) (r : Fin 48) :
    iblk m c 6 t (ix2 d r) = V m c main_v26 (ix2 d r) := by
  unfold iblk
  rw [View.read_apply]
  refine congrArg (V m c main_v26) (funext fun a => Fin.ext ?_)
  fin_cases a
  · blk_simp
    have := index_6 t 0
    change win0_6.index t 0 * 128 + d.val = d.val
    rw [this]
    omega
  · blk_simp
    have := index_6 t 1
    change win0_6.index t 1 * 48 + r.val = r.val
    rw [this]
    omega

/-- Window 7 always shows the one block that is its array. -/
theorem index_7 : ∀ (t : Fin cfg0.N) (a : Fin 2), win0_7.index t a = 0 := by
  decide +kernel

/-- Window 7's block is its whole array. -/
theorem whole_7 (c : Dev nD) (t : Fin cfg0.N) (d : Fin 128) (r : Fin 128) :
    iblk m c 7 t (ix2 d r) = V m c main_arg12 (ix2 d r) := by
  unfold iblk
  rw [View.read_apply]
  refine congrArg (V m c main_arg12) (funext fun a => Fin.ext ?_)
  fin_cases a
  · blk_simp
    have := index_7 t 0
    change win0_7.index t 0 * 128 + d.val = d.val
    rw [this]
    omega
  · blk_simp
    have := index_7 t 1
    change win0_7.index t 1 * 128 + r.val = r.val
    rw [this]
    omega

/-- Window 8 always shows the one block that is its array. -/
theorem index_8 : ∀ (t : Fin cfg0.N) (a : Fin 2), win0_8.index t a = 0 := by
  decide +kernel

/-- Window 8's block is its whole array. -/
theorem whole_8 (c : Dev nD) (t : Fin cfg0.N) (d : Fin 128) (r : Fin 128) :
    iblk m c 8 t (ix2 d r) = V m c main_v27 (ix2 d r) := by
  unfold iblk
  rw [View.read_apply]
  refine congrArg (V m c main_v27) (funext fun a => Fin.ext ?_)
  fin_cases a
  · blk_simp
    have := index_8 t 0
    change win0_8.index t 0 * 128 + d.val = d.val
    rw [this]
    omega
  · blk_simp
    have := index_8 t 1
    change win0_8.index t 1 * 128 + r.val = r.val
    rw [this]
    omega

/-- Window 9 always shows the one block that is its array. -/
theorem index_9 : ∀ (t : Fin cfg0.N) (a : Fin 2), win0_9.index t a = 0 := by
  decide +kernel

/-- Window 9's block is its whole array. -/
theorem whole_9 (c : Dev nD) (t : Fin cfg0.N) (d : Fin 1) (r : Fin 128) :
    iblk m c 9 t (ix2 d r) = V m c main_v30 (ix2 d r) := by
  unfold iblk
  rw [View.read_apply]
  refine congrArg (V m c main_v30) (funext fun a => Fin.ext ?_)
  fin_cases a
  · blk_simp
    exact index_9 t 0
  · blk_simp
    have := index_9 t 1
    change win0_9.index t 1 * 128 + r.val = r.val
    rw [this]
    omega

/-- Window 10 always shows the one block that is its array. -/
theorem index_10 : ∀ (t : Fin cfg0.N) (a : Fin 2), win0_10.index t a = 0 := by
  decide +kernel

/-- Window 10's block is its whole array. -/
theorem whole_10 (c : Dev nD) (t : Fin cfg0.N) (d : Fin 128) (r : Fin 128) :
    iblk m c 10 t (ix2 d r) = V m c main_v31 (ix2 d r) := by
  unfold iblk
  rw [View.read_apply]
  refine congrArg (V m c main_v31) (funext fun a => Fin.ext ?_)
  fin_cases a
  · blk_simp
    have := index_10 t 0
    change win0_10.index t 0 * 128 + d.val = d.val
    rw [this]
    omega
  · blk_simp
    have := index_10 t 1
    change win0_10.index t 1 * 128 + r.val = r.val
    rw [this]
    omega

/-- Window 11 always shows the one block that is its array. -/
theorem index_11 : ∀ (t : Fin cfg0.N) (a : Fin 2), win0_11.index t a = 0 := by
  decide +kernel

/-- Window 11's block is its whole array. -/
theorem whole_11 (c : Dev nD) (t : Fin cfg0.N) (d : Fin 6) (r : Fin 128) :
    iblk m c 11 t (ix2 d r) = V m c main_v37 (ix2 d r) := by
  unfold iblk
  rw [View.read_apply]
  refine congrArg (V m c main_v37) (funext fun a => Fin.ext ?_)
  fin_cases a
  · blk_simp
    have := index_11 t 0
    change win0_11.index t 0 * 6 + d.val = d.val
    rw [this]
    omega
  · blk_simp
    have := index_11 t 1
    change win0_11.index t 1 * 128 + r.val = r.val
    rw [this]
    omega

/-- Window 12 always shows the one block that is its array. -/
theorem index_12 : ∀ (t : Fin cfg0.N) (a : Fin 2), win0_12.index t a = 0 := by
  decide +kernel

/-- Window 12's block is its whole array. -/
theorem whole_12 (c : Dev nD) (t : Fin cfg0.N) (d : Fin 128) (r : Fin 120) :
    iblk m c 12 t (ix2 d r) = V m c main_arg18 (ix2 d r) := by
  unfold iblk
  rw [View.read_apply]
  refine congrArg (V m c main_arg18) (funext fun a => Fin.ext ?_)
  fin_cases a
  · blk_simp
    have := index_12 t 0
    change win0_12.index t 0 * 128 + d.val = d.val
    rw [this]
    omega
  · blk_simp
    have := index_12 t 1
    change win0_12.index t 1 * 120 + r.val = r.val
    rw [this]
    omega

/-- Window 13 always shows the one block that is its array. -/
theorem index_13 : ∀ (t : Fin cfg0.N) (a : Fin 2), win0_13.index t a = 0 := by
  decide +kernel

/-- Window 13's block is its whole array. -/
theorem whole_13 (c : Dev nD) (t : Fin cfg0.N) (d : Fin 1) (r : Fin 120) :
    iblk m c 13 t (ix2 d r) = V m c main_v38 (ix2 d r) := by
  unfold iblk
  rw [View.read_apply]
  refine congrArg (V m c main_v38) (funext fun a => Fin.ext ?_)
  fin_cases a
  · blk_simp
    exact index_13 t 0
  · blk_simp
    have := index_13 t 1
    change win0_13.index t 1 * 120 + r.val = r.val
    rw [this]
    omega

/-! ## The output array -/

/-- The kernel's output array in closed form: entry `(n, 120 m + o)` is the row formula of agent `n`, mode `m`, output `o`. -/
def outArr (A : Fin 10000 → Steps) (P : Weights) (Wp2 : Fin 128 → Fin 120 → EReal) (bp2 : Fin 120 → EReal) :
    S10000x720.Idx → EReal := fun i =>
  out (staged P) (A (i 0)) Wp2 bp2 ⟨(i 1).val / 120, by have : (i 1).val < 720 := (i 1).isLt; omega⟩
    ⟨(i 1).val % 120, Nat.mod_lt _ (by decide)⟩

/-- Its entries. -/
theorem outArr_at (A : Fin 10000 → Steps) (P : Weights) (Wp2 : Fin 128 → Fin 120 → EReal) (bp2 : Fin 120 → EReal)
    (n : Fin 10000) (q : Fin 720) :
    outArr A P Wp2 bp2 (ix2 n q) = out (staged P) (A n) Wp2 bp2 ⟨q.val / 120, by have := q.isLt; omega⟩
      ⟨q.val % 120, Nat.mod_lt _ (by decide)⟩ := rfl

/-- The last layer's weights, as the launch finds them. -/
abbrev lastW (c : Dev nD) : Fin 128 → Fin 120 → EReal := fun h o => m ((c : Thread nD τ).loc main_arg18) (ix2 h o)

/-- The last layer's bias, as the launch finds it. -/
abbrev lastB (c : Dev nD) : Fin 120 → EReal := fun o => m ((c : Thread nD τ).loc main_arg19) (ix1 o)

variable (A : Dev nD → Fin 10000 → Steps) (P : Dev nD → Weights)

/-- The part of the output array that grid point `t` writes back. -/
def oblk (c : Dev nD) (t : Fin cfg0.N) : (win0_14.xblock (grid0.coords t)).Idx → EReal :=
  (win0_14.blk t).view.read (Elt Ideal) (outArr (A c) (P c) (lastW m c) (lastB m c))

/-- Contents of the output's buffer that are the row formula on the rows inside the array are, there, the array's block. -/
theorem fill_rows (c : Dev nD) (t : Fin cfg0.N) (X : S1024x720.Idx → EReal)
    (hX : ∀ (b : Fin 1024) (hb : 1024 * t.val + b.val < 10000) (k : Fin 6) (o : Fin 120),
      X (ix2 b ⟨120 * k.val + o.val, by omega⟩)
        = out (staged (P c)) (A c ⟨1024 * t.val + b.val, hb⟩) (lastW m c) (lastB m c) k o) :
    win0_14.fill (grid0.coords t) X (oblk m A P c t) = X := by
  funext j
  unfold Window.fill
  split
  · rename_i hm
    have hb0 := (win0_14.moved_iff _ _).mp hm 0
    rw [xsize_14 t 0] at hb0
    have ht : t.val < 10 := t.isLt
    obtain ⟨b, q, rfl⟩ : ∃ (b : Fin 1024) (q : Fin 720), j = ix2 b q := ⟨j 0, j 1, funext fun a => by fin_cases a <;> rfl⟩
    have hb : 1024 * t.val + b.val < 10000 := by
      change b.val < (if t.val = 9 then 784 else 1024) at hb0
      split at hb0 <;> omega
    have hq : q.val < 720 := q.isLt
    have e : (win0_14.blk t).view.emb (fun a => ⟨(ix2 b q a).val, (win0_14.moved_iff _ _).mp hm a⟩)
        = (ix2 ⟨1024 * t.val + b.val, hb⟩ q : S10000x720.Idx) := by
      refine funext fun a => Fin.ext ?_
      fin_cases a
      · blk_simp
        have := index_14 t 0
        change win0_14.index t 0 * 1024 + b.val = 1024 * t.val + b.val
        rw [this]
        show t.val * 1024 + b.val = 1024 * t.val + b.val
        omega
      · blk_simp
        have := index_14 t 1
        change win0_14.index t 1 * 720 + q.val = q.val
        rw [this]
        show 0 * 720 + q.val = q.val
        omega
    have hrow := hX b hb ⟨q.val / 120, by omega⟩ ⟨q.val % 120, by omega⟩
    have eq : (⟨120 * (q.val / 120) + q.val % 120, by omega⟩ : Fin 720) = q := Fin.ext (by show 120 * (q.val / 120) + q.val % 120 = q.val; omega)
    have hrow' : X (ix2 b q) = out (staged (P c)) (A c ⟨1024 * t.val + b.val, hb⟩) (lastW m c) (lastB m c)
        ⟨q.val / 120, by omega⟩ ⟨q.val % 120, by omega⟩ := by rw [← hrow]; exact congrArg X (congrArg (ix2 b) eq.symm)
    rw [hrow']
    unfold oblk
    rw [View.read_apply]
    rw [e]
    exact outArr_at _ _ _ _ _ _
  · rfl

/-- What one run of the body leaves in the output's buffer, on the rows inside the array, is the output array's block. -/
theorem out_fill (h : ∀ c : Dev nD, Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (A c) (P c))
    (c : Dev nD) (t : Fin cfg0.N) (d0 d1 d2 : S5x1024.Idx → EReal) (d3 : S5x1024x128.Idx → EReal)
    (f : (st0_14 t).view.ty.Contents (Elt Ideal)) :
    win0_14.fill (grid0.coords t) (View.read (Elt Ideal) (st0_14 t).view ((st0_14 t).view.writes (Elt Ideal) f (Point.kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) (iblk m c 11 t) (iblk m c 12 t) (iblk m c 13 t)).1)) (oblk m A P c t)
      = View.read (Elt Ideal) (st0_14 t).view ((st0_14 t).view.writes (Elt Ideal) f (Point.kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) (iblk m c 11 t) (iblk m c 12 t) (iblk m c 13 t)).1) :=
  fill_rows m A P c t _ fun b hb k o =>
    Row.block_row (b := b) (S := staged (P c)) (X := A c ⟨1024 * t.val + b.val, hb⟩) (Wp2 := lastW m c) (bp2 := lastB m c)
      (c := c) (i := grid0.coords t) (a0 := (st0_0 t)) (h0 := (hstage0_0 ((cfg0.slots t 0).cast nbuf0_0))) (a1 := (st0_1 t)) (h1 := (hstage0_1 ((cfg0.slots t 1).cast nbuf0_1))) (a2 := (st0_2 t)) (h2 := (hstage0_2 ((cfg0.slots t 2).cast nbuf0_2))) (a3 := (st0_3 t)) (h3 := (hstage0_3 ((cfg0.slots t 3).cast nbuf0_3))) (a4 := (st0_4 t)) (h4 := (hstage0_4 ((cfg0.slots t 4).cast nbuf0_4))) (a5 := (st0_5 t)) (h5 := (hstage0_5 ((cfg0.slots t 5).cast nbuf0_5))) (a6 := (st0_6 t)) (h6 := (hstage0_6 ((cfg0.slots t 6).cast nbuf0_6))) (a7 := (st0_7 t)) (h7 := (hstage0_7 ((cfg0.slots t 7).cast nbuf0_7))) (a8 := (st0_8 t)) (h8 := (hstage0_8 ((cfg0.slots t 8).cast nbuf0_8))) (a9 := (st0_9 t)) (h9 := (hstage0_9 ((cfg0.slots t 9).cast nbuf0_9))) (a10 := (st0_10 t)) (h10 := (hstage0_10 ((cfg0.slots t 10).cast nbuf0_10))) (a11 := (st0_11 t)) (h11 := (hstage0_11 ((cfg0.slots t 11).cast nbuf0_11))) (a12 := (st0_12 t)) (h12 := (hstage0_12 ((cfg0.slots t 12).cast nbuf0_12))) (a13 := (st0_13 t)) (h13 := (hstage0_13 ((cfg0.slots t 13).cast nbuf0_13))) (a14 := (st0_14 t)) (h14 := (hstage0_14 ((cfg0.slots t 14).cast nbuf0_14)))
      (x0 := (win0_0.fill (grid0.coords t) d0 (iblk m c 0 t))) (x1 := (win0_1.fill (grid0.coords t) d1 (iblk m c 1 t))) (x2 := (win0_2.fill (grid0.coords t) d2 (iblk m c 2 t))) (x3 := (win0_3.fill (grid0.coords t) d3 (iblk m c 3 t))) (x4 := (iblk m c 4 t)) (x5 := (iblk m c 5 t)) (x6 := (iblk m c 6 t)) (x7 := (iblk m c 7 t)) (x8 := (iblk m c 8 t)) (x9 := (iblk m c 9 t)) (x10 := (iblk m c 10 t)) (x11 := (iblk m c 11 t)) (x12 := (iblk m c 12 t)) (x13 := (iblk m c 13 t))
      (fun s => (fill_0 m c t d0 s b hb).trans (Stage.px_at m c (h c) s ⟨_, hb⟩))
      (fun s => (fill_1 m c t d1 s b hb).trans (Stage.py_at m c (h c) s ⟨_, hb⟩))
      (fun s => (fill_2 m c t d2 s b hb).trans (Stage.hd_at m c (h c) s ⟨_, hb⟩))
      (fun s e => (fill_3 m c t d3 s b e hb).trans (Stage.ae_at m c (h c) s ⟨_, hb⟩ e))
      (fun d r => (whole_4 m c t d r).trans (Stage.W1_at m c (h c) d r))
      (fun d r => (whole_5 m c t d r).trans (Stage.KQ_at m c (h c) d r))
      (fun d r => (whole_6 m c t d r).trans (Stage.EKQ_at m c (h c) d r))
      (fun d r => (whole_7 m c t d r).trans (Stage.V_at m c (h c) d r))
      (fun d r => (whole_8 m c t d r).trans (Stage.EV_at m c (h c) d r))
      (fun d => (whole_9 m c t 0 d).trans (Stage.b2_at m c (h c) d))
      (fun d r => (whole_10 m c t d r).trans (Stage.OP_at m c (h c) d r))
      (fun d r => (whole_11 m c t d r).trans (Stage.cm_at m c (h c) d r))
      (fun d r => (whole_12 m c t d r).trans (congrFun (V_main_arg18 m c) _))
      (fun d => (whole_13 m c t 0 d).trans (Stage.bp2_at m c d))
      f k o

/-- That part, with zero on the buffer's rows past the array's end. -/
def oblk8 (c : Dev nD) (t : Fin cfg0.N) : S1024x720.Idx → EReal :=
  win0_14.fill (grid0.coords t) (fun _ => (0 : EReal)) (oblk m A P c t)

/-- Of which the rows inside the array are that part. -/
theorem cut_oblk8 (c : Dev nD) (t : Fin cfg0.N) :
    win0_14.cut (α := Elt Ideal .f32) (grid0.coords t) (oblk8 m A P c t) = oblk m A P c t :=
  Pipeline.Window.cut_fill _ _ _ _

end Cert.KernelIdeal.Exact

end
-- ==== Proof.KernelValue.lean ====
/-
  The kernel's run: its result is the array of the row formula `Formula.out`, and its arguments end unchanged.
-/
module

public import proofs.«01_k».proof.Proof.KernelBlocks
public import Idealize.ShloMosaic.Lib.Pipeline.ValueKit

@[expose] public section

noncomputable section

namespace Cert.KernelIdeal.Exact

open Cert.KernelIdeal Cert.KernelIdeal.Gen Cert.Formula
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

variable (A : Dev nD → Fin 10000 → Steps) (P : Dev nD → Weights)

/-- The proof data: the arrays as the region finds them; after the body each buffer at its block; nothing owed. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => oblk8 m A P c t
  Φ _ := Pipeline.ΦA spec0 c
  q _ := fullShare
  owed _ := 0

/-- Window 0 is fetched at every point: its buffer holds the block, and `d` past the array's end. -/
theorem before_0 (c : Dev nD) (t : Fin cfg0.N) (d) :
    (dats m A P 0 c).before 0 t d = win0_0.fill (grid0.coords t) d (iblk m c 0 t) := by
  unfold Dat.before; rw [if_pos (fetch0_0 t)]; rfl

/-- Window 1 is fetched at every point: its buffer holds the block, and `d` past the array's end. -/
theorem before_1 (c : Dev nD) (t : Fin cfg0.N) (d) :
    (dats m A P 0 c).before 1 t d = win0_1.fill (grid0.coords t) d (iblk m c 1 t) := by
  unfold Dat.before; rw [if_pos (fetch0_1 t)]; rfl

/-- Window 2 is fetched at every point: its buffer holds the block, and `d` past the array's end. -/
theorem before_2 (c : Dev nD) (t : Fin cfg0.N) (d) :
    (dats m A P 0 c).before 2 t d = win0_2.fill (grid0.coords t) d (iblk m c 2 t) := by
  unfold Dat.before; rw [if_pos (fetch0_2 t)]; rfl

/-- Window 3 is fetched at every point: its buffer holds the block, and `d` past the array's end. -/
theorem before_3 (c : Dev nD) (t : Fin cfg0.N) (d) :
    (dats m A P 0 c).before 3 t d = win0_3.fill (grid0.coords t) d (iblk m c 3 t) := by
  unfold Dat.before; rw [if_pos (fetch0_3 t)]; rfl

/-- Window 4's buffer holds its whole array at every point. -/
theorem before_4 (c : Dev nD) (t : Fin cfg0.N) (d) : (dats m A P 0 c).before 4 t d = iblk m c 4 t :=
  before0_4_of m (dats m A P 0 c) rfl (fun _ => rfl) t d

/-- Window 5's buffer holds its whole array at every point. -/
theorem before_5 (c : Dev nD) (t : Fin cfg0.N) (d) : (dats m A P 0 c).before 5 t d = iblk m c 5 t :=
  before0_5_of m (dats m A P 0 c) rfl (fun _ => rfl) t d

/-- Window 6's buffer holds its whole array at every point. -/
theorem before_6 (c : Dev nD) (t : Fin cfg0.N) (d) : (dats m A P 0 c).before 6 t d = iblk m c 6 t :=
  before0_6_of m (dats m A P 0 c) rfl (fun _ => rfl) t d

/-- Window 7's buffer holds its whole array at every point. -/
theorem before_7 (c : Dev nD) (t : Fin cfg0.N) (d) : (dats m A P 0 c).before 7 t d = iblk m c 7 t :=
  before0_7_of m (dats m A P 0 c) rfl (fun _ => rfl) t d

/-- Window 8's buffer holds its whole array at every point. -/
theorem before_8 (c : Dev nD) (t : Fin cfg0.N) (d) : (dats m A P 0 c).before 8 t d = iblk m c 8 t :=
  before0_8_of m (dats m A P 0 c) rfl (fun _ => rfl) t d

/-- Window 9's buffer holds its whole array at every point. -/
theorem before_9 (c : Dev nD) (t : Fin cfg0.N) (d) : (dats m A P 0 c).before 9 t d = iblk m c 9 t :=
  before0_9_of m (dats m A P 0 c) rfl (fun _ => rfl) t d

/-- Window 10's buffer holds its whole array at every point. -/
theorem before_10 (c : Dev nD) (t : Fin cfg0.N) (d) : (dats m A P 0 c).before 10 t d = iblk m c 10 t :=
  before0_10_of m (dats m A P 0 c) rfl (fun _ => rfl) t d

/-- Window 11's buffer holds its whole array at every point. -/
theorem before_11 (c : Dev nD) (t : Fin cfg0.N) (d) : (dats m A P 0 c).before 11 t d = iblk m c 11 t :=
  before0_11_of m (dats m A P 0 c) rfl (fun _ => rfl) t d

/-- Window 12's buffer holds its whole array at every point. -/
theorem before_12 (c : Dev nD) (t : Fin cfg0.N) (d) : (dats m A P 0 c).before 12 t d = iblk m c 12 t :=
  before0_12_of m (dats m A P 0 c) rfl (fun _ => rfl) t d

/-- Window 13's buffer holds its whole array at every point. -/
theorem before_13 (c : Dev nD) (t : Fin cfg0.N) (d) : (dats m A P 0 c).before 13 t d = iblk m c 13 t :=
  before0_13_of m (dats m A P 0 c) rfl (fun _ => rfl) t d

set_option maxRecDepth 16384 in
set_option maxHeartbeats 2000000 in
/-- The body at every point, from the run of one point. -/
theorem body (h : ∀ c : Dev nD, Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (A c) (P c))
    (c : Dev nD) : BodyObligationLoose (dats m A P 0 c) (defs₀ (F := Ideal)) Variants.none () Set.univ := fun t => by
  rw [bigSep_W0, bigSep_W0]
  simp only
  rw [show (dats m A P 0 c).Φ t.succ = (dats m A P 0 c).Φ t.castSucc from rfl,
    show (dats m A P 0 c).owesAt () t.succ = (dats m A P 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before_0 m A P c t d0, before_1 m A P c t d1, before_2 m A P c t d2, before_3 m A P c t d3, before_4 m A P c t d4, before_5 m A P c t d5, before_6 m A P c t d6, before_7 m A P c t d7, before_8 m A P c t d8, before_9 m A P c t d9, before_10 m A P c t d10, before_11 m A P c t d11, before_12 m A P c t d12, before_13 m A P c t d13]
  iapply ((Point.kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14))
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) (iblk m c 11 t) (iblk m c 12 t) (iblk m c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, ⟨%f14, H14⟩⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (win0_0.fill (grid0.coords t) (fun _ => (0 : EReal)) (iblk m c 0 t))))
    rw [Pipeline.Window.cut_fill]; try iexact H0
  isplitl [H1]
  · iexists d1
    change _ ⊢ owns (c : Thread nD τ) (st0_1 t) fullShare (win0_1.fill (grid0.coords t) d1 (win0_1.cut (grid0.coords t) (win0_1.fill (grid0.coords t) (fun _ => (0 : EReal)) (iblk m c 1 t))))
    rw [Pipeline.Window.cut_fill]; try iexact H1
  isplitl [H2]
  · iexists d2
    change _ ⊢ owns (c : Thread nD τ) (st0_2 t) fullShare (win0_2.fill (grid0.coords t) d2 (win0_2.cut (grid0.coords t) (win0_2.fill (grid0.coords t) (fun _ => (0 : EReal)) (iblk m c 2 t))))
    rw [Pipeline.Window.cut_fill]; try iexact H2
  isplitl [H3]
  · iexists d3
    change _ ⊢ owns (c : Thread nD τ) (st0_3 t) fullShare (win0_3.fill (grid0.coords t) d3 (win0_3.cut (grid0.coords t) (win0_3.fill (grid0.coords t) (fun _ => (0 : EReal)) (iblk m c 3 t))))
    rw [Pipeline.Window.cut_fill]; try iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists (View.read (Elt Ideal) (st0_14 t).view ((st0_14 t).view.writes (Elt Ideal) f14 (Point.kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) (iblk m c 11 t) (iblk m c 12 t) (iblk m c 13 t)).1))
  change _ ⊢ owns (c : Thread nD τ) (st0_14 t) fullShare (win0_14.fill (α := Elt Ideal .f32) (grid0.coords t) _
    (win0_14.cut (α := Elt Ideal .f32) (grid0.coords t) (oblk8 m A P c t)))
  rw [cut_oblk8 m A P c t, out_fill m A P h c t d0 d1 d2 d3 f14]
  unfold owns
  iintro H14
  iexists _; isplitr; swap; · iexact H14
  ipureintro; rfl

/-- The output array after the run. -/
theorem final (c : Dev nD) : (dats m A P 0 c).arrAt 14 cfg0.N = outArr (A c) (P c) (lastW m c) (lastB m c) := by
  refine (dats m A P 0 c).arrAt_eq_of_cover 14 _ (fun t _ => ?_) ?_
  · exact cut_oblk8 m A P c t
  · exact (show (cfg0.win 14).Covers by decide +kernel).cover _ (Memref.isWhole_whole _)

/-- The kernel's result: the output array with the 720 columns read as 6 modes × 60 steps × 2 coordinates. -/
def result (c : Dev nD) : S10000x6x60x2.Idx → EReal :=
  shapeCast S10000x6x60x2 (outArr (A c) (P c) (lastW m c) (lastB m c)) shapeCasts_S10000x720_S10000x6x60x2

/-- The host's last step reads the output array as the result. -/
theorem tail_at (c : Dev nD) :
    Pipeline.afterTail₀ cfgs (dats m A P) 0 (V0 m) [hostOps1] c main_v40 = result m A P c := by
  unfold Pipeline.afterTail₀
  simp only [hostOps1, List.flatten_cons, List.flatten_nil, List.append_nil]
  entry_read
  exact congrArg (fun X : S10000x720.Idx → EReal => shapeCast S10000x6x60x2 X shapeCasts_S10000x720_S10000x6x60x2)
    ((Pipeline.withArrays_arr spec0 (by decide) c (V0 m c) _ 14).trans (final m A P c))

/-- The run: the result is the row formula's array, and every argument is as it was. -/
theorem run (h : ∀ c : Dev nD, Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (A c) (P c)) :
    θ_run defs (onTc (τ := τ) (main (F := Ideal))) ⟨m, fun _ => 0, ρ⟩ (fun r => ∀ c : Dev nD,
      r.2.mem ((c.tc : Thread nD τ).loc main_v40) = result m A P c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_frame_around cfgs (dats m A P) (0 : Fin 1) launch0 defs₀ Variants.none m ρ main
    (body m A P h) (fun c w => (dats m A P 0 c).share_full (fun _ => rfl) w) (fun _ _ => rfl) (V0 m) [hostOps1]
    sfx_sub sfx_fresh sfx_keeps
    (hmain m Variants.none) (fun _ _ => rfl) (fun _ _ => rfl) _
    (fun _ h c => ⟨((h.1 c).2 main_v40 (Pipeline.mem_restRefs_of main_v40 (by decide) (by decide))).trans (tail_at m A P c),
      ((h.1 c).2 main_arg0 (Pipeline.mem_restRefs_of main_arg0 (by decide) (by decide))).trans (W_main_arg0 m (dats m A P) c),
      ((h.1 c).2 main_arg1 (Pipeline.mem_restRefs_of main_arg1 (by decide) (by decide))).trans (W_main_arg1 m (dats m A P) c),
      ((h.1 c).2 main_arg2 (Pipeline.mem_restRefs_of main_arg2 (by decide) (by decide))).trans (W_main_arg2 m (dats m A P) c),
      ((h.1 c).2 main_arg3 (Pipeline.mem_restRefs_of main_arg3 (by decide) (by decide))).trans (W_main_arg3 m (dats m A P) c),
      ((h.1 c).2 main_arg4 (Pipeline.mem_restRefs_of main_arg4 (by decide) (by decide))).trans (W_main_arg4 m (dats m A P) c),
      ((h.1 c).2 main_arg5 (Pipeline.mem_restRefs_of main_arg5 (by decide) (by decide))).trans (W_main_arg5 m (dats m A P) c),
      ((h.1 c).2 main_arg6 (Pipeline.mem_restRefs_of main_arg6 (by decide) (by decide))).trans (W_main_arg6 m (dats m A P) c),
      ((h.1 c).2 main_arg7 (Pipeline.mem_restRefs_of main_arg7 (by decide) (by decide))).trans (W_main_arg7 m (dats m A P) c),
      ((h.1 c).2 main_arg8 (Pipeline.mem_restRefs_of main_arg8 (by decide) (by decide))).trans (W_main_arg8 m (dats m A P) c),
      ((h.1 c).2 main_arg9 (Pipeline.mem_restRefs_of main_arg9 (by decide) (by decide))).trans (W_main_arg9 m (dats m A P) c),
      ((h.1 c).2 main_arg10 (Pipeline.mem_restRefs_of main_arg10 (by decide) (by decide))).trans (W_main_arg10 m (dats m A P) c),
      ((h.1 c).2 main_arg11 (Pipeline.mem_restRefs_of main_arg11 (by decide) (by decide))).trans (W_main_arg11 m (dats m A P) c),
      ((h.1 c).1 7).trans (((dats m A P 0 c).arrAt_in 7 rfl _).trans (V_main_arg12 m c)),
      ((h.1 c).2 main_arg13 (Pipeline.mem_restRefs_of main_arg13 (by decide) (by decide))).trans (W_main_arg13 m (dats m A P) c),
      ((h.1 c).2 main_arg14 (Pipeline.mem_restRefs_of main_arg14 (by decide) (by decide))).trans (W_main_arg14 m (dats m A P) c),
      ((h.1 c).2 main_arg15 (Pipeline.mem_restRefs_of main_arg15 (by decide) (by decide))).trans (W_main_arg15 m (dats m A P) c),
      ((h.1 c).2 main_arg16 (Pipeline.mem_restRefs_of main_arg16 (by decide) (by decide))).trans (W_main_arg16 m (dats m A P) c),
      ((h.1 c).2 main_arg17 (Pipeline.mem_restRefs_of main_arg17 (by decide) (by decide))).trans (W_main_arg17 m (dats m A P) c),
      ((h.1 c).1 12).trans (((dats m A P 0 c).arrAt_in 12 rfl _).trans (V_main_arg18 m c)),
      ((h.1 c).2 main_arg19 (Pipeline.mem_restRefs_of main_arg19 (by decide) (by decide))).trans (W_main_arg19 m (dats m A P) c)⟩)

end Cert.KernelIdeal.Exact

end
-- ==== Proof.Model.lean ====
/-
  What the reference computes for one agent, over the reals.
-/
module

public import proofs.«01_k».proof.Proof.Formula

@[expose] public section

noncomputable section

namespace Cert.Model

open Cert.Finite Cert.Formula

variable (P : Weights) (X : Steps)

/-- The distance of a step from the origin of the agent's directions. -/
def radius (t : Fin 5) : ℝ := Real.sqrt (ahead X t * ahead X t + side X t * side X t)

/-- The six features of an edge. -/
def feature (t : Fin 5) (i : Fin 6) : ℝ :=
  if i.val = 0 then len X t
  else if i.val = 1 then side X t / radius X t
  else if i.val = 2 then ahead X t / radius X t
  else if i.val = 3 then Real.sin (turn X t)
  else if i.val = 4 then Real.cos (turn X t)
  else (t.val : ℝ) - 5

/-- The hidden layer of the edge features. -/
def edge1 (t : Fin 5) (d : Fin 128) : ℝ := max ((∑ i, feature X t i * P.We1 i d) + P.be1 d) 0

/-- The edge's embedding. -/
def edge (t : Fin 5) (e : Fin 128) : ℝ := (∑ d, edge1 P X t d * P.We2 d e) + P.be2 e

/-- A mode's query. -/
def query (m : Fin 6) (e : Fin 128) : ℝ := (∑ k, P.mode m k * P.Wq k e) + P.bq e

/-- A step's key. -/
def key (t : Fin 5) (e : Fin 128) : ℝ := (∑ k, (X.ae t k + edge P X t k) * P.Wk k e) + P.bk e

/-- A step's value. -/
def value (t : Fin 5) (e : Fin 128) : ℝ := (∑ k, (X.ae t k + edge P X t k) * P.Wv k e) + P.bv e

/-- The place of a head's component among the 128. -/
def place (h : Fin 8) (j : Fin 16) : Fin 128 := ⟨h.val * 16 + j.val, by omega⟩

/-- The score of a step for a mode and head. -/
def score (t : Fin 5) (m : Fin 6) (h : Fin 8) : ℝ := (∑ j, query P m (place h j) * key P X t (place h j)) / 4

/-- The greatest score of a mode and head. -/
def top (m : Fin 6) (h : Fin 8) : ℝ :=
  max (max (max (max (score P X 0 m h) (score P X 1 m h)) (score P X 2 m h)) (score P X 3 m h)) (score P X 4 m h)

/-- The exponential of a score below the greatest. -/
def ex (t : Fin 5) (m : Fin 6) (h : Fin 8) : ℝ := Real.exp (score P X t m h - top P X m h)

/-- The sum of the exponentials and the number that keeps it from zero. -/
def den (m : Fin 6) (h : Fin 8) : ℝ := (∑ t, ex P X t m h) + e9

/-- The message of a mode: its values weighted by the attention of their heads. -/
def message (m : Fin 6) (d : Fin 128) : ℝ :=
  ∑ t, ex P X t m ⟨d.val / 16, by omega⟩ / den P X m ⟨d.val / 16, by omega⟩ * value P X t d

/-- The mode's embedding after attention. -/
def token (m : Fin 6) (e : Fin 128) : EReal := ((P.mode m e + ∑ d, message P X m d * P.Wo d e : ℝ) : EReal) + P.bo e

/-- The hidden layer of the proposal. -/
def hidden (m : Fin 6) (e : Fin 128) : EReal := max ((∑ d, token P X m d * ((P.Wp1 d e : ℝ) : EReal)) + P.bp1 e) 0

/-- The proposal. -/
def proposal (Wp2 : Fin 128 → Fin 120 → EReal) (bp2 : Fin 120 → EReal) (m : Fin 6) (o : Fin 120) : EReal :=
  (∑ e, hidden P X m e * Wp2 e o) + bp2 o

theorem den_pos (m : Fin 6) (h : Fin 8) : 0 < den P X m h := by
  have := e9_pos
  unfold den ex
  positivity

end Cert.Model

end
-- ==== Proof.RealTrig.lean ====
/-
  Angles: the sine and cosine of the angle of a point, and of an angle wrapped into one turn.
-/
module

public import proofs.«01_k».proof.Proof.RealForms

@[expose] public section

noncomputable section

namespace Cert.Finite

open Idealize.ShloMosaic

/-- The angle of a point, by quadrant. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem atan2_coe (y x : ℝ) : Ideal.atan2 (y : EReal) (x : EReal) = ((angle y x : ℝ) : EReal) := rfl

/-- The angle of `(-1, 0)` is `π`. -/
theorem angle_zero_neg : angle 0 (-1) = Real.pi := by
  unfold angle
  norm_num

/-- The hypotenuse of a right triangle over the absolute value of a side that is not zero. -/
theorem hyp_div (y : ℝ) {x : ℝ} (hx : x ≠ 0) : Real.sqrt (1 + (y / x) ^ 2) = Real.sqrt (x * x + y * y) / |x| := by
  have e : 1 + (y / x) ^ 2 = (x * x + y * y) / (x * x) := by field_simp
  rw [e, Real.sqrt_div' _ (mul_self_nonneg x), Real.sqrt_mul_self_eq_abs]

/-- The sine of the angle of a point that is not the origin. -/
theorem sin_angle (y x : ℝ) (h : 0 < Real.sqrt (x * x + y * y)) : Real.sin (angle y x) = y / Real.sqrt (x * x + y * y) := by
  unfold angle
  rcases lt_trichotomy x 0 with hx | rfl | hx
  · have hs : Real.sin (Real.arctan (y / x)) = -(y / Real.sqrt (x * x + y * y)) := by
      rw [Real.sin_arctan, hyp_div y hx.ne, abs_of_neg hx]
      have := hx.ne
      field_simp
    rw [if_neg (not_lt.mpr hx.le), if_pos hx]
    split
    · rw [Real.sin_add_pi, hs, neg_neg]
    · rw [Real.sin_sub_pi, hs, neg_neg]
  · rw [if_neg (lt_irrefl _), if_neg (lt_irrefl _)]
    rw [zero_mul, zero_add, Real.sqrt_mul_self_eq_abs] at h ⊢
    rcases lt_trichotomy y 0 with hy | rfl | hy
    · rw [if_neg (not_lt.mpr hy.le), if_pos hy, Real.sin_neg, Real.sin_pi_div_two, abs_of_neg hy, div_neg, div_self hy.ne]
    · rw [abs_zero] at h; exact absurd h (lt_irrefl _)
    · rw [if_pos hy, Real.sin_pi_div_two, abs_of_pos hy, div_self hy.ne']
  · rw [if_pos hx, Real.sin_arctan, hyp_div y hx.ne', abs_of_pos hx]
    have := hx.ne'
    field_simp

/-- The cosine of the angle of a point that is not the origin. -/
theorem cos_angle (y x : ℝ) (h : 0 < Real.sqrt (x * x + y * y)) : Real.cos (angle y x) = x / Real.sqrt (x * x + y * y) := by
  unfold angle
  rcases lt_trichotomy x 0 with hx | rfl | hx
  · have hs : Real.cos (Real.arctan (y / x)) = -(x / Real.sqrt (x * x + y * y)) := by
      rw [Real.cos_arctan, hyp_div y hx.ne, abs_of_neg hx]
      have := hx.ne
      field_simp
    rw [if_neg (not_lt.mpr hx.le), if_pos hx]
    split
    · rw [Real.cos_add_pi, hs, neg_neg]
    · rw [Real.cos_sub_pi, hs, neg_neg]
  · rw [if_neg (lt_irrefl _), if_neg (lt_irrefl _), zero_div]
    rcases lt_trichotomy y 0 with hy | rfl | hy
    · rw [if_neg (not_lt.mpr hy.le), if_pos hy, Real.cos_neg, Real.cos_pi_div_two]
    · simp at h
    · rw [if_pos hy, Real.cos_pi_div_two]
  · rw [if_pos hx, Real.cos_arctan, hyp_div y hx.ne', abs_of_pos hx]
    have := hx.ne'
    field_simp

/-- An angle wrapped into one turn is the angle and a whole number of turns, whichever way its sign is mended. -/
theorem wrap_turns (b : BitVec 1) (d : ℝ) : ∃ k : ℤ,
    Scalar.select b (Ideal.remf ((d + Real.pi : ℝ) : EReal) ((2 * Real.pi : ℝ) : EReal) + ((2 * Real.pi : ℝ) : EReal))
        (Ideal.remf ((d + Real.pi : ℝ) : EReal) ((2 * Real.pi : ℝ) : EReal)) - ((Real.pi : ℝ) : EReal)
      = ((d + k * (2 * Real.pi) : ℝ) : EReal) := by
  have hp : (2 * Real.pi : ℝ) ≠ 0 := by positivity
  rw [Ideal.remf_coe, if_neg hp]
  generalize Ideal.truncInt ((d + Real.pi) / (2 * Real.pi)) = q
  unfold Scalar.select
  split
  · refine ⟨-q + 1, ?_⟩
    rw [← EReal.coe_add, ← EReal.coe_sub]
    congr 1
    push_cast
    ring
  · refine ⟨-q, ?_⟩
    rw [← EReal.coe_sub]
    congr 1
    push_cast
    ring

/-- The sine of a wrapped angle. -/
theorem sin_wrap (b : BitVec 1) (d : ℝ) :
    Ideal.sin (Scalar.select b (Ideal.remf ((d + Real.pi : ℝ) : EReal) ((2 * Real.pi : ℝ) : EReal) + ((2 * Real.pi : ℝ) : EReal))
        (Ideal.remf ((d + Real.pi : ℝ) : EReal) ((2 * Real.pi : ℝ) : EReal)) - ((Real.pi : ℝ) : EReal))
      = ((Real.sin d : ℝ) : EReal) := by
  obtain ⟨k, e⟩ := wrap_turns b d
  rw [e, Ideal.sin_coe, Real.sin_add_int_mul_two_pi]

/-- The cosine of a wrapped angle. -/
theorem cos_wrap (b : BitVec 1) (d : ℝ) :
    Ideal.cos (Scalar.select b (Ideal.remf ((d + Real.pi : ℝ) : EReal) ((2 * Real.pi : ℝ) : EReal) + ((2 * Real.pi : ℝ) : EReal))
        (Ideal.remf ((d + Real.pi : ℝ) : EReal) ((2 * Real.pi : ℝ) : EReal)) - ((Real.pi : ℝ) : EReal))
      = ((Real.cos d : ℝ) : EReal) := by
  obtain ⟨k, e⟩ := wrap_turns b d
  rw [e, Ideal.cos_coe, Real.cos_add_int_mul_two_pi]

end Cert.Finite

end
-- ==== Proof.ReferenceRow.lean ====
/-
  The reference's intermediate arrays, entry by entry, at finite inputs.
-/
module

public import proofs.«01_k».proof.Proof.Inputs
public import proofs.«01_k».proof.Proof.Model
public import proofs.«01_k».proof.Proof.RealTrig
public import proofs.«01_k».proof.Proof.Gen.ReferenceIdeal.Run

@[expose] public section

noncomputable section

namespace Cert.ReferenceIdeal.Row

open Cert.ReferenceIdeal Cert.ReferenceIdeal.Gen Cert.ReferenceIdeal.Value Cert.Formula Cert.Finite
open Idealize.ShloMosaic Idealize.ShloMosaic.TcCoe Idealize.ShloMosaic.Tactic

set_option maxRecDepth 16384

variable (V0 : Valuation τ sig (Elt Ideal)) {A : Fin 10000 → Steps} {P : Weights}
  (h : Holds (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) A P)

include h

/-- The last heading. -/
theorem heading_at (n : Fin 10000) : @Eq EReal (res_main_v5 V0 (ix1 n)) (((A n).hd 4 : ℝ) : EReal) := by
  pointwise [res_main_v5]
  exact h.hd n 4

/-- The displacement, first coordinate. -/
theorem relx_at (n : Fin 10000) (t : Fin 5) :
    @Eq EReal (res_main_v8 V0 (ix3 n t 0)) (((A n).px t - (A n).px 4 : ℝ) : EReal) := by
  pointwise [res_main_v8]
  have h4 := h.px n 4
  change V0 (Proc.devRef .tc main_arg0) (ix3 n (49 : Fin 50) 0) = _ at h4
  simp only [h.px n t, h4, EReal.coe_sub]

/-- The displacement, second coordinate. -/
theorem rely_at (n : Fin 10000) (t : Fin 5) :
    @Eq EReal (res_main_v8 V0 (ix3 n t 1)) (((A n).py t - (A n).py 4 : ℝ) : EReal) := by
  pointwise [res_main_v8]
  have h4 := h.py n 4
  change V0 (Proc.devRef .tc main_arg0) (ix3 n (49 : Fin 50) 1) = _ at h4
  simp only [h.py n t, h4, EReal.coe_sub]

/-- The place along the heading. -/
theorem fwd_at (n : Fin 10000) (t : Fin 5) : @Eq EReal (res_main_v21 V0 (ix2 n t)) ((fwd (A n) t : ℝ) : EReal) := by
  pointwise [res_main_v21, res_main_v10, res_main_v12]
  simp only [heading_at V0 h, relx_at V0 h, rely_at V0 h, Ideal.cos_coe, Ideal.sin_coe, ← EReal.coe_mul, ← EReal.coe_add]
  rfl

/-- The place across the heading. -/
theorem side_at (n : Fin 10000) (t : Fin 5) : @Eq EReal (res_main_v31 V0 (ix2 n t)) ((side (A n) t : ℝ) : EReal) := by
  pointwise [res_main_v31, res_main_v10, res_main_v12]
  simp only [heading_at V0 h, relx_at V0 h, rely_at V0 h, Ideal.cos_coe, Ideal.sin_coe, ← EReal.coe_mul, ← EReal.coe_neg, ← EReal.coe_add]
  rfl

/-- The direction's angle. -/
theorem angle_at (n : Fin 10000) (t : Fin 5) :
    @Eq EReal (res_main_v40 V0 (ix2 n t)) ((angle (side (A n) t) (ahead (A n) t) : ℝ) : EReal) := by
  pointwise [res_main_v40]
  simp only [fwd_at V0 h, side_at V0 h, bits_e6, ← EReal.coe_add, atan2_coe]
  rfl

/-- The relative heading, wrapped: its sine. -/
theorem sin_turn_at (n : Fin 10000) (t : Fin 5) :
    @Eq EReal (Ideal.sin (res_main_v50 V0 (ix2 n t))) ((Real.sin (turn (A n) t) : ℝ) : EReal) := by
  pointwise [res_main_v50, res_main_call0_v1, res_main_v41, res_main_v47]
  have hp : Ideal.atan2 0 ((-1 : ℝ) : EReal) = ((Real.pi : ℝ) : EReal) := (atan2_coe 0 (-1)).trans (by rw [angle_zero_neg])
  simp only [heading_at V0 h, h.hd n t, bits_neg1, bits_two, hp, ← EReal.coe_sub, ← EReal.coe_add, ← EReal.coe_mul]
  exact sin_wrap _ _

/-- The relative heading, wrapped: its cosine. -/
theorem cos_turn_at (n : Fin 10000) (t : Fin 5) :
    @Eq EReal (Ideal.cos (res_main_v50 V0 (ix2 n t))) ((Real.cos (turn (A n) t) : ℝ) : EReal) := by
  pointwise [res_main_v50, res_main_call0_v1, res_main_v41, res_main_v47]
  have hp : Ideal.atan2 0 ((-1 : ℝ) : EReal) = ((Real.pi : ℝ) : EReal) := (atan2_coe 0 (-1)).trans (by rw [angle_zero_neg])
  simp only [heading_at V0 h, h.hd n t, bits_neg1, bits_two, hp, ← EReal.coe_sub, ← EReal.coe_add, ← EReal.coe_mul]
  exact cos_wrap _ _

omit h in
/-- The step's place in time. -/
theorem interval_at (t : Fin 5) : @Eq EReal (FloatOps.sitofp (F := Ideal) FTy.f32 (IntOp.subi (IntOp.addi (45#32) (BitVec.ofNat 32 t.val)) 50#32))
    (((t.val : ℝ) - 5 : ℝ) : EReal) := by
  have e : (IntOp.subi (IntOp.addi (45#32) (BitVec.ofNat 32 t.val)) 50#32 : BitVec 32).toInt = (t.val : ℤ) - 5 := by
    revert t
    decide +kernel
  show (((IntOp.subi (IntOp.addi (45#32) (BitVec.ofNat 32 t.val)) 50#32 : BitVec 32).toInt : ℝ) : EReal) = _
  rw [e]
  push_cast
  rfl

variable (hr : ∀ n t, 0 < Model.radius (A n) t)

include hr

/-- The edge's embedding. -/
theorem edge_at (n : Fin 10000) (t : Fin 5) (e : Fin 128) :
    @Eq EReal (res_main_v78 V0 (ix3 n t e)) ((Model.edge P (A n) t e : ℝ) : EReal) := by
  pointwise [res_main_v78]
  have hs : Ideal.sin ((angle (side (A n) t) (ahead (A n) t) : ℝ) : EReal) = ((side (A n) t / Model.radius (A n) t : ℝ) : EReal) := by
    rw [Ideal.sin_coe, sin_angle _ _ (hr n t)]; rfl
  have hc : Ideal.cos ((angle (side (A n) t) (ahead (A n) t) : ℝ) : EReal) = ((ahead (A n) t / Model.radius (A n) t : ℝ) : EReal) := by
    rw [Ideal.cos_coe, cos_angle _ _ (hr n t)]; rfl
  have hq : Ideal.sqrt ((fwd (A n) t * fwd (A n) t + side (A n) t * side (A n) t + e12 : ℝ) : EReal) = ((len (A n) t : ℝ) : EReal) :=
    sqrt_coe_nonneg (add_nonneg (add_nonneg (mul_self_nonneg _) (mul_self_nonneg _)) e12_pos.le)
  simp only [interval_at, angle_at V0 h, sin_turn_at V0 h, cos_turn_at V0 h, fwd_at V0 h, side_at V0 h, hs, hc, bits_e12,
    ← EReal.coe_mul, ← EReal.coe_add, hq]
  have hf : ∀ i : Fin 6, (if h : i.val < 1 then ((len (A n) t : ℝ) : EReal)
      else if h : i.val - 1 < 1 then ((side (A n) t / Model.radius (A n) t : ℝ) : EReal)
      else if h : i.val - 1 - 1 < 1 then ((ahead (A n) t / Model.radius (A n) t : ℝ) : EReal)
      else if h : i.val - 1 - 1 - 1 < 1 then ((Real.sin (turn (A n) t) : ℝ) : EReal)
      else if h : i.val - 1 - 1 - 1 - 1 < 1 then ((Real.cos (turn (A n) t) : ℝ) : EReal)
      else (((t.val : ℝ) - 5 : ℝ) : EReal)) = ((Model.feature (A n) t i : ℝ) : EReal) := by
    intro i
    fin_cases i <;> rfl
  simp only [hf, h.We1, h.be1, h.We2, h.be2, ← EReal.coe_mul, sum_coe, ← EReal.coe_add, max_coe_zero]
  rfl

omit hr in
/-- The step's embedding. -/
theorem embed_at (n : Fin 10000) (t : Fin 5) (e : Fin 128) :
    @Eq EReal (res_main_v79 V0 (ix3 n t e)) (((A n).ae t e : ℝ) : EReal) := by
  pointwise [res_main_v79]
  exact h.ae n t e

/-- The score. -/
theorem score_at (n : Fin 10000) (t : Fin 5) (m : Fin 6) (k : Fin 8) :
    @Eq EReal (res_main_v104 V0 (ix4 n t m k)) ((Model.score P (A n) t m k : ℝ) : EReal) := by
  pointwise [res_main_v104]
  simp only [embed_at V0 h, edge_at V0 h hr, h.mode, h.Wq, h.bq, h.Wk, h.bk, bits_four, ← EReal.coe_mul, ← EReal.coe_add, sum_coe]
  rw [div_coe_coe (by norm_num)]
  rfl

omit h hr in
/-- The fold of the maximum over the steps. -/
theorem fold_steps (f : S10000x5x6x8.Idx → EReal) (n : Fin 10000) (m : Fin 6) (k : Fin 8) :
    Finset.fold max ⊥ f {i | reducesTo_S10000x5x6x8_S10000x6x8_d1.drop i = ix3 n m k}
      = max (max (max (max (f (ix4 n 0 m k)) (f (ix4 n 1 m k))) (f (ix4 n 2 m k))) (f (ix4 n 3 m k))) (f (ix4 n 4 m k)) := by
  have e : (Finset.univ.filter fun i : S10000x5x6x8.Idx => reducesTo_S10000x5x6x8_S10000x6x8_d1.drop i = ix3 n m k)
      = (Finset.univ : Finset (Fin 5)).image fun t => (ix4 n t m k : S10000x5x6x8.Idx) := by
    ext i
    simp only [Finset.mem_filter, Finset.mem_univ, true_and, Finset.mem_image]
    constructor
    · intro hi
      refine ⟨i 1, ?_⟩
      funext a
      fin_cases a
      · exact (congrFun hi 0).symm
      · rfl
      · exact (congrFun hi 1).symm
      · exact (congrFun hi 2).symm
    · rintro ⟨t, rfl⟩
      funext a
      fin_cases a <;> rfl
  rw [e, Finset.fold_image (by
    intro x _ y _ hxy
    exact congrFun hxy 1)]
  have u : (Finset.univ : Finset (Fin 5)) = {4, 3, 2, 1, 0} := by decide
  rw [u, Finset.fold_insert (by decide), Finset.fold_insert (by decide), Finset.fold_insert (by decide), Finset.fold_insert (by decide),
    Finset.fold_singleton, max_bot_right]
  simp only [Function.comp]
  rw [max_comm (f (ix4 n 4 m k)), max_comm (f (ix4 n 3 m k)), max_comm (f (ix4 n 2 m k)), max_comm (f (ix4 n 1 m k))]

omit h hr in
/-- Equal subtrahends give equal exponentials. -/
theorem exp_sub_congr (x : EReal) {y z : EReal} (e : y = z) : Ideal.exp (x - y) = Ideal.exp (x - z) := by rw [e]

/-- The exponential. -/
theorem ex_at (n : Fin 10000) (t : Fin 5) (m : Fin 6) (k : Fin 8) :
    @Eq EReal (res_main_v109 V0 (ix4 n t m k)) ((Model.ex P (A n) t m k : ℝ) : EReal) := by
  pointwise [res_main_v109]
  rw [bits_neg_inf]
  refine (exp_sub_congr _ (fold_steps _ n m k)).trans ?_
  simp only [score_at V0 h hr, max_coe, ← EReal.coe_sub, Ideal.exp_coe]
  rfl

/-- The result. -/
theorem result_at (n : Fin 10000) (m : Fin 6) (f : Fin 60) (x : Fin 2) :
    @Eq EReal (val3 V0 (Proc.devRef .tc main_v139) (ix4 n m f x))
      (Model.proposal P (A n) (fun e o => V0 (Proc.devRef .tc main_arg18) (ix2 e o)) (fun o => V0 (Proc.devRef .tc main_arg19) (ix1 o)) m
          ⟨f.val * 2 + x.val, by omega⟩) := by
  rw [val3_main_v139]
  pointwise
  have hd : ∀ (t : Fin 5) (k : Fin 8), Ideal.div ((Model.ex P (A n) t m k : ℝ) : EReal) (((∑ s, Model.ex P (A n) s m k) + e9 : ℝ) : EReal)
      = ((Model.ex P (A n) t m k / Model.den P (A n) m k : ℝ) : EReal) :=
    fun t k => div_coe_coe (Model.den_pos P (A n) m k).ne' _
  simp only [ex_at V0 h hr, embed_at V0 h, edge_at V0 h hr, bits_e9, h.mode, h.Wv, h.bv, h.Wo, h.bo, h.Wp1, h.bp1, sum_coe,
    ← EReal.coe_mul, ← EReal.coe_add, hd, max_coe_zero]
  rfl

end Cert.ReferenceIdeal.Row

end
-- ==== Proof.RealMath.lean ====
/-
  The kernel's formula and the reference's are one function of real inputs: the kernel multiplies weights together beforehand,
  drops what is the same for every step from the scores, and adds the biases once.
-/
module

public import proofs.«01_k».proof.Proof.Model

@[expose] public section

noncomputable section

namespace Cert.Model

open Cert.Finite Cert.Formula

/-- A product of three matrices, either way round. -/
theorem sum_swap {ι κ : Type} [Fintype ι] [Fintype κ] (a : ι → ℝ) (B : ι → κ → ℝ) (c : κ → ℝ) :
    (∑ d, a d * ∑ k, B d k * c k) = ∑ k, (∑ d, a d * B d k) * c k := by
  simp only [Finset.mul_sum, Finset.sum_mul]
  rw [Finset.sum_comm]
  exact Finset.sum_congr rfl fun _ _ => Finset.sum_congr rfl fun _ _ => by ring

/-- A real factor goes through the sum of a real and an extended real. -/
theorem shift_mul (x w : ℝ) (b : EReal) : ((x : EReal) + b) * (w : EReal) = ((x * w : ℝ) : EReal) + b * (w : EReal) := by
  induction b with
  | coe b =>
    rw [← EReal.coe_add, ← EReal.coe_mul, ← EReal.coe_mul, ← EReal.coe_add]
    exact congrArg _ (by ring)
  | top =>
    rw [EReal.coe_add_top]
    rcases lt_trichotomy w 0 with hw | hw | hw
    · rw [EReal.top_mul_coe_of_neg hw, EReal.add_bot]
    · simp [hw]
    · rw [EReal.top_mul_coe_of_pos hw, EReal.coe_add_top]
  | bot =>
    rw [EReal.add_bot]
    rcases lt_trichotomy w 0 with hw | hw | hw
    · rw [EReal.bot_mul_coe_of_neg hw, EReal.coe_add_top]
    · simp [hw]
    · rw [EReal.bot_mul_coe_of_pos hw, EReal.add_bot]

/-- The same under a sum. -/
theorem sum_shift {ι : Type} [Fintype ι] (x w : ι → ℝ) (b : ι → EReal) :
    (∑ k, ((x k : EReal) + b k) * (w k : EReal)) = ((∑ k, x k * w k : ℝ) : EReal) + ∑ k, b k * (w k : EReal) := by
  simp only [shift_mul]
  rw [Finset.sum_add_distrib, sum_coe]

/-- A sum over the components of one head, as a sum over all that are in the head. -/
theorem sum_head (f : Fin 128 → ℝ) (k : Fin 8) :
    (∑ j, f (place k j)) = ∑ e : Fin 128, f e * (if e.val / 16 = k.val then 1 else 0) := by
  have hj : Function.Injective (place k) := fun a b hab => by
    have := congrArg Fin.val hab
    simp only [place] at this
    exact Fin.ext (by omega)
  simp only [mul_ite, mul_one, mul_zero]
  rw [← Finset.sum_filter]
  have e : (Finset.univ.filter fun e : Fin 128 => e.val / 16 = k.val) = Finset.univ.image (place k) := by
    ext x
    simp only [Finset.mem_filter, Finset.mem_univ, true_and, Finset.mem_image]
    constructor
    · intro hx
      exact ⟨⟨x.val % 16, Nat.mod_lt _ (by decide)⟩, Fin.ext (by show k.val * 16 + x.val % 16 = x.val; omega)⟩
    · rintro ⟨j, rfl⟩
      show (k.val * 16 + j.val) / 16 = k.val
      omega
  rw [e, Finset.sum_image (fun a _ b _ hab => hj hab)]

variable (P : Weights) (X : Steps)

/-- The row of a mode and head. -/
def row (m : Fin 6) (k : Fin 8) : Fin 48 := ⟨8 * m.val + k.val, by omega⟩

/-- What a key's components are weighted by in a score. -/
def weight (m : Fin 6) (k : Fin 8) (e : Fin 128) : ℝ := query P m e * (1 / 4) * head e (row m k)

/-- What an embedding's components are weighted by in a score. -/
def pull (m : Fin 6) (k : Fin 8) (d : Fin 128) : ℝ := ∑ e, P.Wk d e * weight P m k e

theorem row_mode (m : Fin 6) (k : Fin 8) (hh : (row m k).val / 8 < 6) : (⟨(row m k).val / 8, hh⟩ : Fin 6) = m :=
  Fin.ext (by show (8 * m.val + k.val) / 8 = m.val; omega)

/-- The kernel's first product of weights. -/
theorem staged_KQ (m : Fin 6) (k : Fin 8) (d : Fin 128) : (staged P).KQ d (row m k) = pull P m k d := by
  simp only [staged, row_mode]
  rfl

/-- The kernel's second product of weights. -/
theorem staged_EKQ (m : Fin 6) (k : Fin 8) (d : Fin 128) : (staged P).EKQ d (row m k) = ∑ e, P.We2 d e * pull P m k e := by
  simp only [staged, row_mode]
  rfl

/-- The part of a score that no step changes. -/
def still (m : Fin 6) (k : Fin 8) : ℝ := (∑ e, P.be2 e * pull P m k e) + ∑ e, P.bk e * weight P m k e

/-- The reference's score, as a sum over all components. -/
theorem score_eq_sum (t : Fin 5) (m : Fin 6) (k : Fin 8) : score P X t m k = ∑ e, key P X t e * weight P m k e := by
  unfold score
  rw [sum_head (fun e => query P m e * key P X t e), Finset.sum_div]
  refine Finset.sum_congr rfl fun e _ => ?_
  have hm : (row m k).val % 8 = k.val := by show (8 * m.val + k.val) % 8 = k.val; omega
  unfold weight head
  rw [hm]
  ring

variable (hr : ∀ t, tiny ≤ radius X t)

include hr

/-- The two programs' hidden layers of the edge features agree. -/
theorem edgeHid_eq (t : Fin 5) (d : Fin 128) : edgeHid (staged P) X t d = edge1 P X t d := by
  have hreach : reach X t = radius X t := max_eq_left (hr t)
  unfold edgeHid edge1
  rw [hreach]
  refine congrArg (fun z => max z 0) ?_
  rw [Fin.sum_univ_six]
  rfl

/-- The two programs' scores differ by what no step changes. -/
theorem score_eq (t : Fin 5) (m : Fin 6) (k : Fin 8) :
    score P X t m k = Formula.score (staged P) X t (row m k) + still P m k := by
  rw [score_eq_sum]
  unfold Formula.score
  simp only [staged_KQ, staged_EKQ, edgeHid_eq P X hr]
  rw [sum_swap (fun d => edge1 P X t d) P.We2 (pull P m k)]
  unfold key still
  have h1 : (∑ e, ((∑ d, (X.ae t d + edge P X t d) * P.Wk d e) + P.bk e) * weight P m k e)
      = (∑ d, (X.ae t d + edge P X t d) * pull P m k d) + ∑ e, P.bk e * weight P m k e := by
    unfold pull
    rw [sum_swap (fun d => X.ae t d + edge P X t d) P.Wk (weight P m k), ← Finset.sum_add_distrib]
    exact Finset.sum_congr rfl fun _ _ => by ring
  rw [h1, ← add_assoc]
  refine congrArg (· + _) ?_
  rw [← Finset.sum_add_distrib, ← Finset.sum_add_distrib]
  refine Finset.sum_congr rfl fun d _ => ?_
  unfold edge
  ring

/-- The greatest scores differ by the same. -/
theorem top_eq (m : Fin 6) (k : Fin 8) : top P X m k = Formula.top (staged P) X (row m k) + still P m k := by
  unfold top Formula.top
  simp only [score_eq P X hr, max_add_add_right]

/-- The exponentials agree. -/
theorem ex_eq (t : Fin 5) (m : Fin 6) (k : Fin 8) : ex P X t m k = Formula.ex (staged P) X t (row m k) := by
  unfold ex Formula.ex
  rw [score_eq P X hr, top_eq P X hr, add_sub_add_right_eq_sub]

/-- The denominators agree. -/
theorem den_eq (m : Fin 6) (k : Fin 8) : den P X m k = Formula.den (staged P) X (row m k) + e9 := by
  unfold den Formula.den
  rw [Fin.sum_univ_five]
  simp only [ex_eq P X hr]

/-- The attention weight of a value's column. -/
theorem spread_eq (t : Fin 5) (m : Fin 6) (d : Fin 128) :
    spread (staged P) X t (col m d)
      = ex P X t m ⟨d.val / 16, by omega⟩ / den P X m ⟨d.val / 16, by omega⟩ := by
  unfold spread
  rw [Finset.sum_eq_single (row m ⟨d.val / 16, by omega⟩)]
  · have hs : sel (row m ⟨d.val / 16, by omega⟩) (col m d) = 1 := by
      unfold sel
      refine if_pos ⟨?_, ?_⟩
      · show (128 * m.val + d.val) / 128 = (8 * m.val + d.val / 16) / 8
        omega
      · show (128 * m.val + d.val) % 128 / 16 = (8 * m.val + d.val / 16) % 8
        omega
    rw [hs, ex_eq P X hr, den_eq P X hr, mul_one]
    unfold Formula.inv
    rw [mul_one_div]
  · intro r _ hne
    have hs : sel r (col m d) = 0 := by
      unfold sel
      refine if_neg fun ⟨h1, h2⟩ => hne (Fin.ext ?_)
      change (128 * m.val + d.val) / 128 = r.val / 8 at h1
      change (128 * m.val + d.val) % 128 / 16 = r.val % 8 at h2
      show r.val = 8 * m.val + d.val / 16
      omega
    rw [hs, mul_zero]
  · intro hn
    exact absurd (Finset.mem_univ _) hn

/-- The values agree. -/
theorem val_eq (t : Fin 5) (d : Fin 128) : val (staged P) X t d = value P X t d := by
  unfold val value
  simp only [edgeHid_eq P X hr]
  show (∑ e, X.ae t e * P.Wv e d) + (∑ e, edge1 P X t e * ∑ k, P.We2 e k * P.Wv k d) + ((∑ k, P.be2 k * P.Wv k d) + P.bv d) = _
  rw [sum_swap (fun e => edge1 P X t e) P.We2 (fun k => P.Wv k d), ← add_assoc, ← Finset.sum_add_distrib, ← Finset.sum_add_distrib]
  refine congrArg (· + _) (Finset.sum_congr rfl fun k _ => ?_)
  unfold edge
  ring

/-- The messages agree. -/
theorem acc_eq (m : Fin 6) (d : Fin 128) : acc (staged P) X m d = message P X m d := by
  unfold acc message part
  rw [Fin.sum_univ_five]
  simp only [spread_eq P X hr, val_eq P X hr]

/-- The hidden layers of the proposal agree. -/
theorem hid_eq (m : Fin 6) (h : Fin 128) : hid (staged P) X m h = hidden P X m h := by
  unfold hid hidden token
  refine congrArg (fun z => max z 0) ?_
  simp only [acc_eq P X hr]
  rw [sum_shift]
  show ((∑ d, message P X m d * ∑ k, P.Wo d k * P.Wp1 k h : ℝ) : EReal)
      + (((∑ k, P.mode m k * P.Wp1 k h : ℝ) : EReal) + ((∑ k, P.bo k * ((P.Wp1 k h : ℝ) : EReal)) + P.bp1 h)) = _
  rw [sum_swap (fun d => message P X m d) P.Wo (fun k => P.Wp1 k h), ← add_assoc, ← add_assoc, ← EReal.coe_add, ← Finset.sum_add_distrib]
  refine congrArg (fun z : ℝ => (z : EReal) + _ + _) (Finset.sum_congr rfl fun k _ => ?_)
  ring

/-- The proposals agree, whatever the last layer's weights. -/
theorem out_eq (Wp2 : Fin 128 → Fin 120 → EReal) (bp2 : Fin 120 → EReal) (m : Fin 6) (o : Fin 120) :
    out (staged P) X Wp2 bp2 m o = proposal P X Wp2 bp2 m o := by
  unfold out proposal
  simp only [hid_eq P X hr]

end Cert.Model

end
-- ==== Proof.Tame.lean ====
/-
  What the precondition says of the inputs: they are real numbers where that is asked, and no step lies at the origin of its agent's directions.
-/
module

public import proofs.«01_k».proof.Proof.Gen.Pre_tame
public import proofs.«01_k».proof.Proof.Inputs
public import proofs.«01_k».proof.Proof.Model

@[expose] public section

set_option maxRecDepth 16384

noncomputable section

namespace Cert.Pre_tame.Real

open Cert.Pre_tame Cert.Pre_tame.Gen Cert.Formula Cert.Finite
open Idealize.ShloMosaic Idealize.ShloMosaic.TcCoe

/-- A comparison's bit is set when the comparison holds. -/
theorem of_bit {p : Prop} [Decidable p] (h : BitVec.ofBool (decide p) = 1#1) : p := by
  by_contra hn
  rw [decide_eq_false hn] at h
  exact absurd h (by decide)

/-- A number whose absolute value is under infinity is a real number. -/
theorem finite_of {s : Shape} {hb : S_.BroadcastsInDim s (![] : Fin 0 → Fin s.rank)} {x : FVec Ideal s .f32}
    (h : cmpf .olt (Host.absf x) (broadcastInDim s ![] hb (constant S_ .f32 0x7F800000#32)) = fun _ => 1#1) (i : s.Idx) :
    @Eq EReal (x i) ((EReal.toReal (x i) : ℝ) : EReal) := by
  have e : BitVec.ofBool (decide (@max EReal _ (x i) (-(x i : EReal)) < Ideal.ofBits .f32 0x7F800000#32)) = 1#1 := congrFun h i
  rw [bits_inf] at e
  have lt := max_lt_iff.mp (of_bit e)
  refine (EReal.coe_toReal lt.1.ne fun hx => ?_).symm
  rw [hx] at lt
  exact absurd lt.2 (by simp)

/-- The last five steps of every agent, as real numbers. -/
def steps (a0 : FVec Ideal S10000x50x2 .f32) (a1 : FVec Ideal S10000x50 .f32) (a2 : FVec Ideal S10000x50x128 .f32) (n : Fin 10000) : Steps where
  px t := EReal.toReal (a0 (ix3 n ⟨45 + t.val, by omega⟩ 0))
  py t := EReal.toReal (a0 (ix3 n ⟨45 + t.val, by omega⟩ 1))
  hd t := EReal.toReal (a1 (ix2 n ⟨45 + t.val, by omega⟩))
  ae t d := EReal.toReal (a2 (ix3 n ⟨45 + t.val, by omega⟩ d))

/-- The weights, as real numbers. -/
def weights (a3 : FVec Ideal S6x128 .f32) (a4 : FVec Ideal S6x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128x128 .f32) (a17 : FVec Ideal S128 .f32) : Weights where
  mode d e := EReal.toReal (a3 (ix2 d e))
  We1 d e := EReal.toReal (a4 (ix2 d e))
  be1 d := EReal.toReal (a5 (ix1 d))
  We2 d e := EReal.toReal (a6 (ix2 d e))
  be2 d := EReal.toReal (a7 (ix1 d))
  Wq d e := EReal.toReal (a8 (ix2 d e))
  bq d := EReal.toReal (a9 (ix1 d))
  Wk d e := EReal.toReal (a10 (ix2 d e))
  bk d := EReal.toReal (a11 (ix1 d))
  Wv d e := EReal.toReal (a12 (ix2 d e))
  bv d := EReal.toReal (a13 (ix1 d))
  Wo d e := EReal.toReal (a14 (ix2 d e))
  bo d := a15 (ix1 d)
  Wp1 d e := EReal.toReal (a16 (ix2 d e))
  bp1 d := a17 (ix1 d)

variable {a0 : FVec Ideal S10000x50x2 .f32} {a1 : FVec Ideal S10000x50 .f32} {a2 : FVec Ideal S10000x50x128 .f32} {a3 : FVec Ideal S6x128 .f32} {a4 : FVec Ideal S6x128 .f32} {a5 : FVec Ideal S128 .f32} {a6 : FVec Ideal S128x128 .f32} {a7 : FVec Ideal S128 .f32} {a8 : FVec Ideal S128x128 .f32} {a9 : FVec Ideal S128 .f32} {a10 : FVec Ideal S128x128 .f32} {a11 : FVec Ideal S128 .f32} {a12 : FVec Ideal S128x128 .f32} {a13 : FVec Ideal S128 .f32} {a14 : FVec Ideal S128x128 .f32} {a15 : FVec Ideal S128 .f32} {a16 : FVec Ideal S128x128 .f32} {a17 : FVec Ideal S128 .f32} {a18 : FVec Ideal S128x120 .f32} {a19 : FVec Ideal S120 .f32}

/-- Equal numbers are real together. -/
theorem real_of {x y : EReal} (e : y = x) (h : y = ((EReal.toReal y : ℝ) : EReal)) : x = ((EReal.toReal x : ℝ) : EReal) := by
  rw [← e]
  exact h

/-- A step of the last five, read off the slice. -/
theorem step3 (x : FVec Ideal S10000x50x2 .f32) (n : Fin 10000) (t : Fin 5) (k : Fin 2) :
    extractStridedSlice S10000x5x2 ![0, 45, 0] x slices_S10000x50x2_S10000x5x2_0_45_0 (ix3 n t k) = x (ix3 n ⟨45 + t.val, by omega⟩ k) := by
  pointwise

/-- A heading of the last five, read off the slice. -/
theorem step2 (x : FVec Ideal S10000x50 .f32) (n : Fin 10000) (t : Fin 5) :
    extractStridedSlice S10000x5 ![0, 45] x slices_S10000x50_S10000x5_0_45 (ix2 n t) = x (ix2 n ⟨45 + t.val, by omega⟩) := by
  pointwise

/-- An embedding of the last five, read off the slice. -/
theorem step3e (x : FVec Ideal S10000x50x128 .f32) (n : Fin 10000) (t : Fin 5) (d : Fin 128) :
    extractStridedSlice S10000x5x128 ![0, 45, 0] x slices_S10000x50x128_S10000x5x128_0_45_0 (ix3 n t d) = x (ix3 n ⟨45 + t.val, by omega⟩ d) := by
  pointwise

/-- The arrays hold the real numbers they are read as. -/
theorem holds_of (h : (fn (F := Ideal) a0 a1 a2 a3 a4 a5 a6 a7 a8 a9 a10 a11 a12 a13 a14 a15 a16 a17 a18 a19).1 = (fun _ => 1#1)
    ∧ (fn (F := Ideal) a0 a1 a2 a3 a4 a5 a6 a7 a8 a9 a10 a11 a12 a13 a14 a15 a16 a17 a18 a19).2.1 = (fun _ => 1#1)
    ∧ (fn (F := Ideal) a0 a1 a2 a3 a4 a5 a6 a7 a8 a9 a10 a11 a12 a13 a14 a15 a16 a17 a18 a19).2.2.1 = (fun _ => 1#1)
    ∧ (fn (F := Ideal) a0 a1 a2 a3 a4 a5 a6 a7 a8 a9 a10 a11 a12 a13 a14 a15 a16 a17 a18 a19).2.2.2.1 = (fun _ => 1#1)
    ∧ (fn (F := Ideal) a0 a1 a2 a3 a4 a5 a6 a7 a8 a9 a10 a11 a12 a13 a14 a15 a16 a17 a18 a19).2.2.2.2.1 = (fun _ => 1#1)
    ∧ (fn (F := Ideal) a0 a1 a2 a3 a4 a5 a6 a7 a8 a9 a10 a11 a12 a13 a14 a15 a16 a17 a18 a19).2.2.2.2.2.1 = (fun _ => 1#1)
    ∧ (fn (F := Ideal) a0 a1 a2 a3 a4 a5 a6 a7 a8 a9 a10 a11 a12 a13 a14 a15 a16 a17 a18 a19).2.2.2.2.2.2.1 = (fun _ => 1#1)
    ∧ (fn (F := Ideal) a0 a1 a2 a3 a4 a5 a6 a7 a8 a9 a10 a11 a12 a13 a14 a15 a16 a17 a18 a19).2.2.2.2.2.2.2.1 = (fun _ => 1#1)
    ∧ (fn (F := Ideal) a0 a1 a2 a3 a4 a5 a6 a7 a8 a9 a10 a11 a12 a13 a14 a15 a16 a17 a18 a19).2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.2.2 = (fun _ => 1#1)) :
    Holds a0 a1 a2 a3 a4 a5 a6 a7 a8 a9 a10 a11 a12 a13 a14 a15 a16 a17 (steps a0 a1 a2) (weights a3 a4 a5 a6 a7 a8 a9 a10 a11 a12 a13 a14 a15 a16 a17) := by
  obtain ⟨h0, h1, h2, h3, h4, h5, h6, h7, h8, h9, h10, h11, h12, h13, h14, h16, _⟩ := h
  exact {
    px := fun n t => real_of (step3 a0 n t 0) <| finite_of h0 (ix3 n t 0)
    py := fun n t => real_of (step3 a0 n t 1) <| finite_of h0 (ix3 n t 1)
    hd := fun n t => real_of (step2 a1 n t) <| finite_of h1 (ix2 n t)
    ae := fun n t d => real_of (step3e a2 n t d) <| finite_of h2 (ix3 n t d)
    mode := fun d e => finite_of h3 (ix2 d e)
    We1 := fun d e => finite_of h4 (ix2 d e)
    be1 := fun d => finite_of h5 (ix1 d)
    We2 := fun d e => finite_of h6 (ix2 d e)
    be2 := fun d => finite_of h7 (ix1 d)
    Wq := fun d e => finite_of h8 (ix2 d e)
    bq := fun d => finite_of h9 (ix1 d)
    Wk := fun d e => finite_of h10 (ix2 d e)
    bk := fun d => finite_of h11 (ix1 d)
    Wv := fun d e => finite_of h12 (ix2 d e)
    bv := fun d => finite_of h13 (ix1 d)
    Wo := fun d e => finite_of h14 (ix2 d e)
    bo := fun _ => rfl
    Wp1 := fun d e => finite_of h16 (ix2 d e)
    bp1 := fun _ => rfl }

/-- The last comparison, at a step. -/
theorem guard_at (hh : Holds a0 a1 a2 a3 a4 a5 a6 a7 a8 a9 a10 a11 a12 a13 a14 a15 a16 a17 (steps a0 a1 a2) (weights a3 a4 a5 a6 a7 a8 a9 a10 a11 a12 a13 a14 a15 a16 a17)) (n : Fin 10000) (t : Fin 5) :
    @Eq (BitVec 1) ((fn (F := Ideal) a0 a1 a2 a3 a4 a5 a6 a7 a8 a9 a10 a11 a12 a13 a14 a15 a16 a17 a18 a19).2.2.2.2.2.2.2.2.2.2.2.2.2.2.2.2 (ix2 n t))
      (BitVec.ofBool (decide (((tiny : ℝ) : EReal) ≤ ((Model.radius (steps a0 a1 a2 n) t : ℝ) : EReal)))) := by
  have hx4 : a0 (ix3 n 49 0) = (((steps a0 a1 a2 n).px 4 : ℝ) : EReal) := hh.px n 4
  have hy4 : a0 (ix3 n 49 1) = (((steps a0 a1 a2 n).py 4 : ℝ) : EReal) := hh.py n 4
  have hz4 : a1 (ix2 n 49) = (((steps a0 a1 a2 n).hd 4 : ℝ) : EReal) := hh.hd n 4
  pointwise [fn, fn_part1, fn_part2, fn_part3, fn_part4]
  simp only [hh.px, hh.py, hx4, hy4, hz4, bits_e6, bits_tiny, Ideal.cos_coe, Ideal.sin_coe, ← EReal.coe_mul, ← EReal.coe_add,
    ← EReal.coe_sub, ← EReal.coe_neg]
  rw [sqrt_coe_nonneg (add_nonneg (mul_self_nonneg _) (mul_self_nonneg _))]
  rfl

/-- No step lies at the origin of its agent's directions. -/
theorem radius_of (h : (fn (F := Ideal) a0 a1 a2 a3 a4 a5 a6 a7 a8 a9 a10 a11 a12 a13 a14 a15 a16 a17 a18 a19).1 = (fun _ => 1#1)
    ∧ (fn (F := Ideal) a0 a1 a2 a3 a4 a5 a6 a7 a8 a9 a10 a11 a12 a13 a14 a15 a16 a17 a18 a19).2.1 = (fun _ => 1#1)
    ∧ (fn (F := Ideal) a0 a1 a2 a3 a4 a5 a6 a7 a8 a9 a10 a11 a12 a13 a14 a15 a16 a17 a18 a19).2.2.1 = (fun _ => 1#1)
    ∧ (fn (F := Ideal) a0 a1 a2 a3 a4 a5 a6 a7 a8 a9 a10 a11 a12 a13 a14 a15 a16 a17 a18 a19).2.2.2.1 = (fun _ => 1#1)
    ∧ (fn (F := Ideal) a0 a1 a2 a3 a4 a5 a6 a7 a8 a9 a10 a11 a12 a13 a14 a15 a16 a17 a18 a19).2.2.2.2.1 = (fun _ => 1#1)
    ∧ (fn (F := Ideal) a0 a1 a2 a3 a4 a5 a6 a7 a8 a9 a10 a11 a12 a13 a14 a15 a16 a17 a18 a19).2.2.2.2.2.1 = (fun _ => 1#1)
    ∧ (fn (F := Ideal) a0 a1 a2 a3 a4 a5 a6 a7 a8 a9 a10 a11 a12 a13 a14 a15 a16 a17 a18 a19).2.2.2.2.2.2.1 = (fun _ => 1#1)
    ∧ (fn (F := Ideal) a0 a1 a2 a3 a4 a5 a6 a7 a8 a9 a10 a11 a12 a13 a14 a15 a16 a17 a18 a19).2.2.2.2.2.2.2.1 = (fun _ => 1#1)
    ∧ (fn (F := Ideal) a0 a1 a2 a3 a4 a5 a6 a7 a8 a9 a10 a11 a12 a13 a14 a15 a16 a17 a18 a19).2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.2.1 = (fun _ => 1#1)
    ∧ (fn (F := Ideal) a0 a1 a2 a3 a4 a5 a6 a7 a8 a9 a10 a11 a12 a13 a14 a15 a16 a17 a18 a19).2.2.2.2.2.2.2.2.2.2.2.2.2.2.2.2 = (fun _ => 1#1))
    (n : Fin 10000) (t : Fin 5) : tiny ≤ Model.radius (steps a0 a1 a2 n) t := by
  have hh := holds_of h
  obtain ⟨_, _, _, _, _, _, _, _, _, _, _, _, _, _, _, _, h18⟩ := h
  exact EReal.coe_le_coe_iff.mp (of_bit ((guard_at hh n t).symm.trans (congrFun h18 (ix2 n t))))

end Cert.Pre_tame.Real

end
-- ==== Proof.Same.lean ====
/-
  The kernel and the reference end with the same result.
-/
module

public import proofs.«01_k».proof.Defs
public import proofs.«01_k».proof.Proof.KernelValue
public import proofs.«01_k».proof.Proof.ReferenceRow
public import proofs.«01_k».proof.Proof.RealMath
public import proofs.«01_k».proof.Proof.Tame

@[expose] public section

set_option maxRecDepth 16384

noncomputable section

namespace Cert.Same

open Cert.Formula Cert.Finite
open Idealize.ShloMosaic Idealize.ShloMosaic.TcCoe Idealize.SL.Sem

/-- An entry of the kernel's result. -/
theorem result_at (m : (ℓ : Loc KernelIdeal.nD KernelIdeal.τ KernelIdeal.sig) → Buf (Elt Ideal) ℓ)
    (A : Dev KernelIdeal.nD → Fin 10000 → Steps) (P : Dev KernelIdeal.nD → Weights) (c : Dev KernelIdeal.nD)
    (n : Fin 10000) (k : Fin 6) (f : Fin 60) (x : Fin 2) :
    KernelIdeal.Exact.result m A P c (ix4 n k f x)
      = out (staged (P c)) (A c n) (KernelIdeal.Exact.lastW m c) (KernelIdeal.Exact.lastB m c) k ⟨f.val * 2 + x.val, by omega⟩ := by
  pointwise [KernelIdeal.Exact.result]
  refine (KernelIdeal.Exact.outArr_at _ _ _ _ n _).trans ?_
  have hk : (⟨(k.val * 120 + f.val * 2 + x.val) / 120, by omega⟩ : Fin 6) = k := Fin.ext (by show (k.val * 120 + f.val * 2 + x.val) / 120 = k.val; omega)
  have ho : (⟨(k.val * 120 + f.val * 2 + x.val) % 120, by omega⟩ : Fin 120) = ⟨f.val * 2 + x.val, by omega⟩ :=
    Fin.ext (by show (k.val * 120 + f.val * 2 + x.val) % 120 = f.val * 2 + x.val; omega)
  exact congrArg₂ (out (staged (P c)) (A c n) (KernelIdeal.Exact.lastW m c) (KernelIdeal.Exact.lastB m c)) hk ho

/-- The device's steps. -/
def A (m : (ℓ : Loc KernelIdeal.nD KernelIdeal.τ KernelIdeal.sig) → Buf (Elt Ideal) ℓ) (c : Dev KernelIdeal.nD) : Fin 10000 → Steps :=
  Pre_tame.Real.steps (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))

/-- The device's weights. -/
def P (m : (ℓ : Loc KernelIdeal.nD KernelIdeal.τ KernelIdeal.sig) → Buf (Elt Ideal) ℓ) (c : Dev KernelIdeal.nD) : Weights :=
  Pre_tame.Real.weights (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))

/-- Memories that agree on the arguments, real ones with no step at the origin of its directions, give equal results. -/
theorem algebraic : algebraic_KernelIdeal_ReferenceIdeal_pre_tame
    (hKernelIdeal := KernelIdeal.Gen.facts) (hReferenceIdeal := ReferenceIdeal.Gen.facts) (hPre_tame := Pre_tame.Gen.facts) := by
  intro m g m' g' hp hag
  have hH (c : Dev KernelIdeal.nD) : Holds (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (A m c) (P m c) := Pre_tame.Real.holds_of (hp c)
  have hR (c : Dev KernelIdeal.nD) (n : Fin 10000) (t : Fin 5) : tiny ≤ Model.radius (A m c n) t := Pre_tame.Real.radius_of (hp c) n t
  refine ⟨KernelIdeal.Exact.result m (A m) (P m), KernelIdeal.Exact.run m g (A m) (P m) hH, ?_⟩
  refine (θ_run _ _ _).mono (fun r h c => ⟨((h c).1.trans (ReferenceIdeal.Value.val3_main_v139 _).symm).trans ?_, (h c).2⟩) (ReferenceIdeal.Value.run m' g')
  obtain ⟨e0, e1, e2, e3, e4, e5, e6, e7, e8, e9, e10, e11, e12, e13, e14, e15, e16, e17, e18, e19⟩ := hag c
  have hH' := hH c
  rw [← e0, ← e1, ← e2, ← e3, ← e4, ← e5, ← e6, ← e7, ← e8, ← e9, ← e10, ← e11, ← e12, ← e13, ← e14, ← e15, ← e16, ← e17] at hH'
  funext i
  idx_vars i
  refine Eq.trans ?_ (result_at m (A m) (P m) c i0 i1 i2 i3).symm
  refine (ReferenceIdeal.Row.result_at (StableHlo.launchContents m' c) hH' (fun n t => lt_of_lt_of_le tiny_pos (hR c n t)) i0 i1 i2 i3).trans ?_
  have hw : (fun (e : Fin 128) (o : Fin 120) => StableHlo.launchContents m' c (Proc.devRef .tc ReferenceIdeal.main_arg18) (ix2 e o))
      = KernelIdeal.Exact.lastW m c := funext fun e => funext fun o => congrFun e18 (ix2 e o)
  have hb : (fun o : Fin 120 => StableHlo.launchContents m' c (Proc.devRef .tc ReferenceIdeal.main_arg19) (ix1 o))
      = KernelIdeal.Exact.lastB m c := funext fun o => congrFun e19 (ix1 o)
  rw [hw, hb, Model.out_eq (P m c) (A m c i0) (hR c i0)]

end Cert.Same

end
-- ==== Proof.lean ====
/-
  The certificate of the trajectory-proposal kernel: the frames of the kernel, of its idealized reading and of the
  reference, and the equality of the kernel's result and the reference's.
-/
module

public import proofs.«01_k».proof.Defs
public import proofs.«01_k».proof.Proof.KernelFrame
public import proofs.«01_k».proof.Proof.KernelIdealFrame
public import proofs.«01_k».proof.Proof.ReferenceFrame
public import proofs.«01_k».proof.Proof.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame

@[expose] public section

noncomputable section

namespace Cert.Proof

/-- Everything claimed. -/
theorem claim : Cert.Claim :=
  ⟨Cert.Kernel.Gen.facts, Cert.KernelIdeal.Gen.facts, Cert.ReferenceIdeal.Gen.facts, Cert.Pre_tame.Gen.facts,
    fun m g _ => Cert.Kernel.Unnamed.frame m g, fun m g _ => Cert.KernelIdeal.Unnamed.frame m g,
    fun m g _ => Cert.KernelIdeal.Unnamed.frame m g, fun m g _ => Cert.ReferenceIdeal.Whole.frame m g,
    fun m g _ => Cert.ReferenceIdeal.Whole.frame m g, trivial, Cert.Same.algebraic⟩

end Cert.Proof

end
